-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonnegative [hPre_finite_nonnegative : Cert.Pre_finite_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonnegative [hPre_finite_nonnegative : Cert.Pre_finite_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_nonnegative [hKernelIdeal : Cert.KernelIdeal.Facts] [hPre_finite_nonnegative : Cert.Pre_finite_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonnegative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_nonnegative [hReferenceIdeal : Cert.ReferenceIdeal.Facts] [hPre_finite_nonnegative : Cert.Pre_finite_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_nonnegative [hKernelIdeal : Cert.KernelIdeal.Facts] [hReferenceIdeal : Cert.ReferenceIdeal.Facts] [hPre_finite_nonnegative : Cert.Pre_finite_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v83)) (v3 : (c : Dev Cert.KernelIdeal.nD) → Buf (Elt Ideal) ((c.tc : Thread Cert.KernelIdeal.nD Cert.KernelIdeal.τ).loc Cert.KernelIdeal.main_v93)) (v4 : (c : Dev Cert.KernelIdeal.nD) → Buf (Elt Ideal) ((c.tc : Thread Cert.KernelIdeal.nD Cert.KernelIdeal.τ).loc Cert.KernelIdeal.main_v94)) (v5 : (c : Dev Cert.KernelIdeal.nD) → Buf (Elt Ideal) ((c.tc : Thread Cert.KernelIdeal.nD Cert.KernelIdeal.τ).loc Cert.KernelIdeal.main_v100)) (v6 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_v94) = v4 c
          ∧ r.2.mem ((c.tc : Thread Cert.KernelIdeal.nD Cert.KernelIdeal.τ).loc Cert.KernelIdeal.main_v100) = v5 c
          ∧ r.2.mem ((c.tc : Thread Cert.KernelIdeal.nD Cert.KernelIdeal.τ).loc Cert.KernelIdeal.main_v102) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v122) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_nonnegative : Cert.Pre_finite_nonnegative.Facts),
    quiescent_Kernel (hKernel := hKernel)
    ∧ quiescent_KernelIdeal (hKernelIdeal := hKernelIdeal)
    ∧ quiescent_KernelIdeal_pre_finite_nonnegative (hKernelIdeal := hKernelIdeal) (hPre_finite_nonnegative := hPre_finite_nonnegative)
    ∧ quiescent_ReferenceIdeal (hReferenceIdeal := hReferenceIdeal)
    ∧ quiescent_ReferenceIdeal_pre_finite_nonnegative (hReferenceIdeal := hReferenceIdeal) (hPre_finite_nonnegative := hPre_finite_nonnegative)
    ∧ preserves_Kernel_KernelIdeal
    ∧ algebraic_KernelIdeal_ReferenceIdeal_pre_finite_nonnegative (hKernelIdeal := hKernelIdeal) (hReferenceIdeal := hReferenceIdeal) (hPre_finite_nonnegative := hPre_finite_nonnegative)
-- ==== Pre_finite_nonnegative.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) (main_arg1 : FVec F S_ .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_cst_0 : FVec F S_ .f32 := constant S_ .f32 0x00000000#32
  let main_v4 : IVec S_ 1 := cmpf .oge main_arg1 main_cst_0
  let main_v5 : IVec S_ 1 := andi main_v3 main_v4
  main_v5
-- ==== Kernel.lean ====
abbrev S64x256x56x56 : Shape := ⟨4, ![64, 256, 56, 56]⟩
abbrev S_ : Shape := ⟨0, ![]⟩
abbrev S4x256x56x56 : Shape := ⟨4, ![4, 256, 56, 56]⟩
abbrev S3211264 : Shape := ⟨1, ![3211264]⟩
abbrev S16 : Shape := ⟨1, ![16]⟩
abbrev S32x208 : Shape := ⟨2, ![32, 208]⟩
abbrev S12544 : Shape := ⟨1, ![12544]⟩
abbrev S208 : Shape := ⟨1, ![208]⟩
abbrev S1x208 : Shape := ⟨2, ![1, 208]⟩
abbrev S8 : Shape := ⟨1, ![8]⟩
abbrev S13x8x56 : Shape := ⟨3, ![13, 8, 56]⟩
abbrev S1x64x56x56 : Shape := ⟨4, ![1, 64, 56, 56]⟩
abbrev S1 : Shape := ⟨1, ![1]⟩
abbrev S8x56 : Shape := ⟨2, ![8, 56]⟩
abbrev S1x1x56x56 : Shape := ⟨4, ![1, 1, 56, 56]⟩
abbrev S56x56 : Shape := ⟨2, ![56, 56]⟩
abbrev S1x8x56 : Shape := ⟨3, ![1, 8, 56]⟩
abbrev S32x13x16 : Shape := ⟨3, ![32, 13, 16]⟩
abbrev S13 : Shape := ⟨1, ![13]⟩
abbrev S4 : Shape := ⟨1, ![4]⟩

abbrev nBuf : Table → Nat
  | .hbm => 135
  | .local .tc .vmem => 4
  | .local .tc .smem => 1
  | .local .scVector .vmem => 4
  | _ => 0

abbrev hbmTy0_0 (i : Nat) : BufTy := match i % 128 with
  | 0 => ⟨S64x256x56x56, .f32⟩
  | 1 => ⟨S_, .f32⟩
  | 2 => ⟨S4x256x56x56, .f32⟩
  | 3 => ⟨S3211264, .f32⟩
  | 4 => ⟨S16, .f32⟩
  | 5 => ⟨S32x208, .f32⟩
  | 6 => ⟨S8, .f32⟩
  | 7 => ⟨S13x8x56, .f32⟩
  | 8 => ⟨S32x13x16, .f32⟩
  | 9 => ⟨S_, .f32⟩
  | 10 => ⟨S13, .f32⟩
  | 11 => ⟨S_, .f32⟩
  | 12 => ⟨S13, .f32⟩
  | 13 => ⟨S13, .f32⟩
  | 14 => ⟨S1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S1, .f32⟩
  | 46 => ⟨S1, .f32⟩
  | 47 => ⟨S1, .f32⟩
  | 48 => ⟨S4, .f32⟩
  | 49 => ⟨S_, .f32⟩
  | 50 => ⟨S_, .f32⟩
  | 51 => ⟨S_, .f32⟩
  | 52 => ⟨S1, .f32⟩
  | 53 => ⟨S1, .f32⟩
  | 54 => ⟨S1, .f32⟩
  | 55 => ⟨S1, .f32⟩
  | 56 => ⟨S4, .f32⟩
  | 57 => ⟨S_, .f32⟩
  | 58 => ⟨S_, .f32⟩
  | 59 => ⟨S_, .f32⟩
  | 60 => ⟨S1, .f32⟩
  | 61 => ⟨S1, .f32⟩
  | 62 => ⟨S1, .f32⟩
  | 63 => ⟨S1, .f32⟩
  | 64 => ⟨S4, .f32⟩
  | 65 => ⟨S4, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S_, .f32⟩
  | 73 => ⟨S4, .f32⟩
  | 74 => ⟨S4, .i1⟩
  | 75 => ⟨S4, .f32⟩
  | 76 => ⟨S4, .f32⟩
  | 77 => ⟨S_, .f32⟩
  | 78 => ⟨S_, .f32⟩
  | 79 => ⟨S4, .f32⟩
  | 80 => ⟨S4, .f32⟩
  | 81 => ⟨S_, .f32⟩
  | 82 => ⟨S_, .f32⟩
  | 83 => ⟨S_, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S4, .f32⟩
  | 92 => ⟨S_, .f32⟩
  | 93 => ⟨S4, .f32⟩
  | 94 => ⟨S4, .i1⟩
  | 95 => ⟨S_, .f32⟩
  | 96 => ⟨S_, .f32⟩
  | 97 => ⟨S4, .f32⟩
  | 98 => ⟨S4, .f32⟩
  | 99 => ⟨S_, .f32⟩
  | 100 => ⟨S_, .f32⟩
  | 101 => ⟨S_, .f32⟩
  | 102 => ⟨S_, .f32⟩
  | 103 => ⟨S4, .f32⟩
  | 104 => ⟨S4, .f32⟩
  | 105 => ⟨S4, .f32⟩
  | 106 => ⟨S4, .f32⟩
  | 107 => ⟨S4, .f32⟩
  | 108 => ⟨S4, .f32⟩
  | 109 => ⟨S4, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x256x56x56, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (nBuf tb) → BufTy
  | .hbm, ⟨i, _⟩ => hbmTy i
  | .local .tc .vmem, ⟨0, _⟩ => ⟨S1x64x56x56, .f32⟩
  | .local .tc .vmem, ⟨1, _⟩ => ⟨S1x64x56x56, .f32⟩
  | .local .tc .vmem, ⟨2, _⟩ => ⟨S13x8x56, .f32⟩
  | .local .tc .vmem, ⟨3, _⟩ => ⟨S13x8x56, .f32⟩
  | .local .tc .smem, ⟨0, _⟩ => ⟨S8, .f32⟩
  | .local .scVector .vmem, ⟨0, _⟩ => ⟨S12544, .f32⟩
  | .local .scVector .vmem, ⟨1, _⟩ => ⟨S12544, .f32⟩
  | .local .scVector .vmem, ⟨2, _⟩ => ⟨S16, .f32⟩
  | .local .scVector .vmem, ⟨3, _⟩ => ⟨S208, .f32⟩
  | _, _ => ⟨S64x256x56x56, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_cst_2 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_3 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_4 : Ref sig .tc := ⟨.hbm, 77, rfl⟩
abbrev main_call0_v0 : Ref sig .tc := ⟨.hbm, 78, rfl⟩
abbrev main_call0_v1 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_cst_8 : Ref sig .tc := ⟨.hbm, 95, rfl⟩
abbrev main_call1_v0 : Ref sig .tc := ⟨.hbm, 96, rfl⟩
abbrev main_call1_v1 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_cst_12 : Ref sig .tc := ⟨.hbm, 112, rfl⟩
abbrev main_v93 : Ref sig .tc := ⟨.hbm, 113, rfl⟩
abbrev main_cst_13 : Ref sig .tc := ⟨.hbm, 114, rfl⟩
abbrev main_v94 : Ref sig .tc := ⟨.hbm, 115, rfl⟩
abbrev main_cst_14 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_cst_18 : Ref sig .tc := ⟨.hbm, 125, rfl⟩
abbrev main_cst_19 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_v100 : Ref sig .tc := ⟨.hbm, 130, rfl⟩
abbrev main_cst_20 : Ref sig .tc := ⟨.hbm, 131, rfl⟩
abbrev main_v101 : Ref sig .tc := ⟨.hbm, 132, rfl⟩
abbrev main_cst_21 : Ref sig .tc := ⟨.hbm, 133, rfl⟩
abbrev main_v102 : Ref sig .tc := ⟨.hbm, 134, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_scratch0 : Ref sig .tc := ⟨.vmem, 3, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem1_1 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100352_i32 : BitVec 32 := 100352#32
  let v2 : BitVec 32 := Scalar.muli v1 c100352_i32
  let v13 : BitVec 32 := Scalar.addi v2 c0_i32
  ![v13.toNat]
@[reducible] def k0_t1_loop : Scf.Loop 32 :=
  let c0_i32_4 : BitVec 32 := 0#32
  let c3_i32 : BitVec 32 := 3#32
  let v17 : BitVec 32 := Scalar.addi c0_i32_4 c3_i32
  let c1_i32 : BitVec 32 := 1#32
  ⟨c0_i32_4, v17, c1_i32⟩
def k0_off2 (i : grid0.Coords) (k0_t1 : Fin k0_t1_loop.trips) (c1_i32_15 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100352_i32 : BitVec 32 := 100352#32
  let v2 : BitVec 32 := Scalar.muli v1 c100352_i32
  let c2_i32_14 : BitVec 32 := 2#32
  let c0_i32_4 : BitVec 32 := 0#32
  let c1_i32 : BitVec 32 := 1#32
  let arg11 : BitVec 32 := Scf.iv c0_i32_4 c1_i32 k0_t1
  let v69 : BitVec 32 := Scalar.muli c2_i32_14 arg11
  let v70 : BitVec 32 := Scalar.addi v69 c1_i32_15
  let c12544_i32 : BitVec 32 := 12544#32
  let v71 : BitVec 32 := Scalar.muli v70 c12544_i32
  let v72 : BitVec 32 := Scalar.addi v2 v71
  ![v72.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100352_i32 : BitVec 32 := 100352#32
  let v2 : BitVec 32 := Scalar.muli v1 c100352_i32
  ![v2.toNat]
@[reducible] def k0_t2_loop : Scf.Loop 32 :=
  let c0_i32_16 : BitVec 32 := 0#32
  let c784_i32_17 : BitVec 32 := 784#32
  let v77 : BitVec 32 := Scalar.addi c0_i32_16 c784_i32_17
  let c1_i32_18 : BitVec 32 := 1#32
  ⟨c0_i32_16, v77, c1_i32_18⟩
def k0_off4 (k0_t2 : Fin k0_t2_loop.trips) : Fin 1 → Nat :=
  let c0_i32_16 : BitVec 32 := 0#32
  let c1_i32_18 : BitVec 32 := 1#32
  let arg25 : BitVec 32 := Scf.iv c0_i32_16 c1_i32_18 k0_t2
  let c16_i32 : BitVec 32 := 16#32
  let v88 : BitVec 32 := Scalar.muli arg25 c16_i32
  let v89 : Index := Scalar.indexCast v88
  ![v89.toNat]
@[reducible] def k0_t3_loop : Scf.Loop 32 :=
  let c0_i32_22 : BitVec 32 := 0#32
  let c784_i32_23 : BitVec 32 := 784#32
  let v86 : BitVec 32 := Scalar.addi c0_i32_22 c784_i32_23
  let c1_i32_24 : BitVec 32 := 1#32
  ⟨c0_i32_22, v86, c1_i32_24⟩
def k0_off5 (k0_t3 : Fin k0_t3_loop.trips) : Fin 1 → Nat :=
  let c0_i32_22 : BitVec 32 := 0#32
  let c1_i32_24 : BitVec 32 := 1#32
  let arg25 : BitVec 32 := Scf.iv c0_i32_22 c1_i32_24 k0_t3
  let c16_i32 : BitVec 32 := 16#32
  let v88 : BitVec 32 := Scalar.muli arg25 c16_i32
  let v89 : Index := Scalar.indexCast v88
  ![v89.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100352_i32 : BitVec 32 := 100352#32
  let v2 : BitVec 32 := Scalar.muli v1 c100352_i32
  ![v2.toNat]
@[reducible] def k0_t4_loop : Scf.Loop 32 :=
  let c0_i32_6 : BitVec 32 := 0#32
  let c784_i32 : BitVec 32 := 784#32
  let v24 : BitVec 32 := Scalar.addi c0_i32_6 c784_i32
  let c1_i32_7 : BitVec 32 := 1#32
  ⟨c0_i32_6, v24, c1_i32_7⟩
def k0_off7 (k0_t4 : Fin k0_t4_loop.trips) : Fin 1 → Nat :=
  let c0_i32_6 : BitVec 32 := 0#32
  let c1_i32_7 : BitVec 32 := 1#32
  let arg11 : BitVec 32 := Scf.iv c0_i32_6 c1_i32_7 k0_t4
  let c16_i32 : BitVec 32 := 16#32
  let v69 : BitVec 32 := Scalar.muli arg11 c16_i32
  let v70 : Index := Scalar.indexCast v69
  ![v70.toNat]
@[reducible] def k0_t5_loop : Scf.Loop 32 :=
  let c0_i32_9 : BitVec 32 := 0#32
  let c784_i32_10 : BitVec 32 := 784#32
  let v28 : BitVec 32 := Scalar.addi c0_i32_9 c784_i32_10
  let c1_i32_11 : BitVec 32 := 1#32
  ⟨c0_i32_9, v28, c1_i32_11⟩
def k0_off8 (k0_t5 : Fin k0_t5_loop.trips) : Fin 1 → Nat :=
  let c0_i32_9 : BitVec 32 := 0#32
  let c1_i32_11 : BitVec 32 := 1#32
  let arg11 : BitVec 32 := Scf.iv c0_i32_9 c1_i32_11 k0_t5
  let c16_i32 : BitVec 32 := 16#32
  let v69 : BitVec 32 := Scalar.muli arg11 c16_i32
  let v70 : Index := Scalar.indexCast v69
  ![v70.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r1 : BitVec 32 := 0#32
  ![v1.toNat, 0]
abbrev grid1 : Pipeline.Grid := ⟨2, ![60, 4], ![false, false]⟩

@[reducible] def k1_t1_loop : Scf.Loop 32 :=
  let c0_i32_4 : BitVec 32 := 0#32
  let c64_i32 : BitVec 32 := 64#32
  let v7 : BitVec 32 := Scalar.addi c0_i32_4 c64_i32
  let c1_i32 : BitVec 32 := 1#32
  ⟨c0_i32_4, v7, c1_i32⟩
def k1_off1 (k1_t1 : Fin k1_t1_loop.trips) : Fin 4 → Nat :=
  let c0_73 : Index := 0#32
  let c0_i32_4 : BitVec 32 := 0#32
  let c1_i32 : BitVec 32 := 1#32
  let arg6 : BitVec 32 := Scf.iv c0_i32_4 c1_i32 k1_t1
  let v92 : Index := Scalar.indexCast arg6
  let c0_74 : Index := 0#32
  let c0_75 : Index := 0#32
  ![0, v92.toNat, 0, 0]
def k1_cond2 (i : grid1.Coords) : BitVec 1 :=
  let arg0 : BitVec 32 := BitVec.ofNat 32 (i 0).val
  let c59_i32 : BitVec 32 := 59#32
  let v87 : BitVec 1 := Scalar.cmpi .eq arg0 c59_i32
  let arg1 : BitVec 32 := BitVec.ofNat 32 (i 1).val
  let c3_i32 : BitVec 32 := 3#32
  let v88 : BitVec 1 := Scalar.cmpi .eq arg1 c3_i32
  let v89 : BitVec 1 := Scalar.andi v87 v88
  let v90 : BitVec 32 := Scalar.extui v89
  let c0_i32_72 : BitVec 32 := 0#32
  let v91 : BitVec 1 := Scalar.cmpi .ne v90 c0_i32_72
  v91

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x64x56x56 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S13x8x56 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x256x56x56 : Shape := ⟨4, ![64, 256, 56, 56]⟩
abbrev S_ : Shape := ⟨0, ![]⟩
abbrev S51380224 : Shape := ⟨1, ![51380224]⟩
abbrev S4 : Shape := ⟨1, ![4]⟩
abbrev S1 : Shape := ⟨1, ![1]⟩

abbrev nBuf : Space → Nat
  | .hbm => 224
  | .vmem => 0
  | .smem => 0
  | _ => 0

abbrev hbmTy0_0 (i : Nat) : BufTy := match i % 128 with
  | 0 => ⟨S64x256x56x56, .f32⟩
  | 1 => ⟨S_, .f32⟩
  | 2 => ⟨S51380224, .f32⟩
  | 3 => ⟨S4, .f32⟩
  | 4 => ⟨S4, .f32⟩
  | 5 => ⟨S4, .f32⟩
  | 6 => ⟨S51380224, .f32⟩
  | 7 => ⟨S51380224, .f32⟩
  | 8 => ⟨S_, .i32⟩
  | 9 => ⟨S_, .i32⟩
  | 10 => ⟨S_, .f32⟩
  | 11 => ⟨S51380224, .f32⟩
  | 12 => ⟨S51380224, .f32⟩
  | 13 => ⟨S_, .f32⟩
  | 14 => ⟨S51380224, .f32⟩
  | 15 => ⟨S51380224, .f32⟩
  | 16 => ⟨S51380224, .f32⟩
  | 17 => ⟨S51380224, .i32⟩
  | 18 => ⟨S_, .i32⟩
  | 19 => ⟨S51380224, .i32⟩
  | 20 => ⟨S51380224, .i1⟩
  | 21 => ⟨S51380224, .i32⟩
  | 22 => ⟨S_, .i32⟩
  | 23 => ⟨S_, .i32⟩
  | 24 => ⟨S_, .f32⟩
  | 25 => ⟨S_, .f32⟩
  | 26 => ⟨S_, .f32⟩
  | 27 => ⟨S_, .f32⟩
  | 28 => ⟨S_, .f32⟩
  | 29 => ⟨S51380224, .f32⟩
  | 30 => ⟨S51380224, .f32⟩
  | 31 => ⟨S_, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | 38 => ⟨S_, .i32⟩
  | 39 => ⟨S_, .i1⟩
  | 40 => ⟨S_, .f32⟩
  | 41 => ⟨S_, .f32⟩
  | 42 => ⟨S_, .f32⟩
  | 43 => ⟨S_, .f32⟩
  | 44 => ⟨S51380224, .f32⟩
  | 45 => ⟨S51380224, .f32⟩
  | 46 => ⟨S51380224, .f32⟩
  | 47 => ⟨S_, .f32⟩
  | 48 => ⟨S_, .f32⟩
  | 49 => ⟨S51380224, .f32⟩
  | 50 => ⟨S51380224, .f32⟩
  | 51 => ⟨S_, .f32⟩
  | 52 => ⟨S_, .f32⟩
  | 53 => ⟨S_, .f32⟩
  | 54 => ⟨S_, .i32⟩
  | 55 => ⟨S_, .i1⟩
  | 56 => ⟨S_, .f32⟩
  | 57 => ⟨S_, .f32⟩
  | 58 => ⟨S_, .f32⟩
  | 59 => ⟨S_, .f32⟩
  | 60 => ⟨S_, .i32⟩
  | 61 => ⟨S51380224, .i32⟩
  | 62 => ⟨S51380224, .i1⟩
  | 63 => ⟨S51380224, .i32⟩
  | 64 => ⟨S_, .i32⟩
  | 65 => ⟨S_, .i32⟩
  | 66 => ⟨S_, .f32⟩
  | 67 => ⟨S_, .f32⟩
  | 68 => ⟨S_, .f32⟩
  | 69 => ⟨S_, .f32⟩
  | 70 => ⟨S_, .f32⟩
  | 71 => ⟨S51380224, .f32⟩
  | 72 => ⟨S51380224, .f32⟩
  | 73 => ⟨S_, .f32⟩
  | 74 => ⟨S_, .f32⟩
  | 75 => ⟨S_, .f32⟩
  | 76 => ⟨S1, .f32⟩
  | 77 => ⟨S_, .f32⟩
  | 78 => ⟨S_, .f32⟩
  | 79 => ⟨S_, .f32⟩
  | 80 => ⟨S_, .i32⟩
  | 81 => ⟨S_, .i1⟩
  | 82 => ⟨S_, .f32⟩
  | 83 => ⟨S_, .f32⟩
  | 84 => ⟨S_, .f32⟩
  | 85 => ⟨S51380224, .f32⟩
  | 86 => ⟨S51380224, .f32⟩
  | 87 => ⟨S51380224, .f32⟩
  | 88 => ⟨S_, .f32⟩
  | 89 => ⟨S_, .f32⟩
  | 90 => ⟨S51380224, .f32⟩
  | 91 => ⟨S51380224, .f32⟩
  | 92 => ⟨S_, .f32⟩
  | 93 => ⟨S_, .f32⟩
  | 94 => ⟨S_, .f32⟩
  | 95 => ⟨S_, .i32⟩
  | 96 => ⟨S_, .i1⟩
  | 97 => ⟨S_, .f32⟩
  | 98 => ⟨S_, .f32⟩
  | 99 => ⟨S_, .f32⟩
  | 100 => ⟨S_, .i32⟩
  | 101 => ⟨S51380224, .i32⟩
  | 102 => ⟨S51380224, .i1⟩
  | 103 => ⟨S51380224, .i32⟩
  | 104 => ⟨S_, .i32⟩
  | 105 => ⟨S_, .i32⟩
  | 106 => ⟨S_, .f32⟩
  | 107 => ⟨S_, .f32⟩
  | 108 => ⟨S_, .f32⟩
  | 109 => ⟨S_, .f32⟩
  | 110 => ⟨S_, .f32⟩
  | 111 => ⟨S51380224, .f32⟩
  | 112 => ⟨S51380224, .f32⟩
  | 113 => ⟨S_, .f32⟩
  | 114 => ⟨S_, .f32⟩
  | 115 => ⟨S_, .f32⟩
  | 116 => ⟨S1, .f32⟩
  | 117 => ⟨S_, .f32⟩
  | 118 => ⟨S_, .f32⟩
  | 119 => ⟨S_, .f32⟩
  | 120 => ⟨S_, .i32⟩
  | 121 => ⟨S_, .i1⟩
  | 122 => ⟨S_, .f32⟩
  | 123 => ⟨S_, .f32⟩
  | 124 => ⟨S_, .f32⟩
  | 125 => ⟨S51380224, .f32⟩
  | 126 => ⟨S51380224, .f32⟩
  | 127 => ⟨S51380224, .f32⟩
  | _ => ⟨S64x256x56x56, .f32⟩

abbrev hbmTy0_1 (i : Nat) : BufTy := match i % 128 with
  | 0 => ⟨S_, .f32⟩
  | 1 => ⟨S_, .f32⟩
  | 2 => ⟨S51380224, .f32⟩
  | 3 => ⟨S51380224, .f32⟩
  | 4 => ⟨S_, .f32⟩
  | 5 => ⟨S_, .f32⟩
  | 6 => ⟨S_, .f32⟩
  | 7 => ⟨S_, .i32⟩
  | 8 => ⟨S_, .i1⟩
  | 9 => ⟨S_, .f32⟩
  | 10 => ⟨S_, .f32⟩
  | 11 => ⟨S_, .f32⟩
  | 12 => ⟨S_, .i32⟩
  | 13 => ⟨S51380224, .i32⟩
  | 14 => ⟨S51380224, .i1⟩
  | 15 => ⟨S51380224, .i32⟩
  | 16 => ⟨S_, .i32⟩
  | 17 => ⟨S_, .i32⟩
  | 18 => ⟨S_, .f32⟩
  | 19 => ⟨S_, .f32⟩
  | 20 => ⟨S_, .f32⟩
  | 21 => ⟨S_, .f32⟩
  | 22 => ⟨S_, .f32⟩
  | 23 => ⟨S51380224, .f32⟩
  | 24 => ⟨S51380224, .f32⟩
  | 25 => ⟨S_, .f32⟩
  | 26 => ⟨S_, .f32⟩
  | 27 => ⟨S_, .f32⟩
  | 28 => ⟨S1, .f32⟩
  | 29 => ⟨S_, .f32⟩
  | 30 => ⟨S_, .f32⟩
  | 31 => ⟨S_, .f32⟩
  | 32 => ⟨S_, .i32⟩
  | 33 => ⟨S_, .i1⟩
  | 34 => ⟨S_, .f32⟩
  | 35 => ⟨S_, .f32⟩
  | 36 => ⟨S_, .f32⟩
  | 37 => ⟨S51380224, .f32⟩
  | 38 => ⟨S51380224, .f32⟩
  | 39 => ⟨S51380224, .f32⟩
  | 40 => ⟨S_, .f32⟩
  | 41 => ⟨S_, .f32⟩
  | 42 => ⟨S51380224, .f32⟩
  | 43 => ⟨S51380224, .f32⟩
  | 44 => ⟨S_, .f32⟩
  | 45 => ⟨S_, .f32⟩
  | 46 => ⟨S_, .f32⟩
  | 47 => ⟨S_, .i32⟩
  | 48 => ⟨S_, .i1⟩
  | 49 => ⟨S_, .f32⟩
  | 50 => ⟨S_, .f32⟩
  | 51 => ⟨S_, .f32⟩
  | 52 => ⟨S_, .f32⟩
  | 53 => ⟨S51380224, .f32⟩
  | 54 => ⟨S51380224, .f32⟩
  | 55 => ⟨S51380224, .f32⟩
  | 56 => ⟨S51380224, .f32⟩
  | 57 => ⟨S51380224, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S51380224, .f32⟩
  | 80 => ⟨S51380224, .f32⟩
  | 81 => ⟨S51380224, .f32⟩
  | 82 => ⟨S51380224, .i1⟩
  | 83 => ⟨S51380224, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S51380224, .f32⟩
  | 91 => ⟨S51380224, .f32⟩
  | 92 => ⟨S_, .f32⟩
  | 93 => ⟨S_, .f32⟩
  | 94 => ⟨S_, .f32⟩
  | 95 => ⟨S_, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call4_v0 : Ref sig .tc := ⟨.hbm, 48, rfl⟩
abbrev main_call4_v1 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_cst_12 : Ref sig .tc := ⟨.hbm, 58, rfl⟩
abbrev main_v33 : Ref sig .tc := ⟨.hbm, 59, rfl⟩
abbrev main_c_13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_14 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_cst_16 : Ref sig .tc := ⟨.hbm, 69, rfl⟩
abbrev main_call6_v0 : Ref sig .tc := ⟨.hbm, 70, rfl⟩
abbrev main_call6_v1 : Ref sig .tc := ⟨.hbm, 71, rfl⟩
abbrev main_v40 : Ref sig .tc := ⟨.hbm, 72, rfl⟩
abbrev main_cst_17 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_18 : Ref sig .tc := ⟨.hbm, 80, rfl⟩
abbrev main_v47 : Ref sig .tc := ⟨.hbm, 81, rfl⟩
abbrev main_cst_19 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_20 : Ref sig .tc := ⟨.hbm, 88, rfl⟩
abbrev main_call8_v0 : Ref sig .tc := ⟨.hbm, 89, rfl⟩
abbrev main_call8_v1 : Ref sig .tc := ⟨.hbm, 90, rfl⟩
abbrev main_v53 : Ref sig .tc := ⟨.hbm, 91, rfl⟩
abbrev main_cst_21 : Ref sig .tc := ⟨.hbm, 92, rfl⟩
abbrev main_v54 : Ref sig .tc := ⟨.hbm, 93, rfl⟩
abbrev main_v55 : Ref sig .tc := ⟨.hbm, 94, rfl⟩
abbrev main_c_22 : Ref sig .tc := ⟨.hbm, 95, rfl⟩
abbrev main_v56 : Ref sig .tc := ⟨.hbm, 96, rfl⟩
abbrev main_cst_23 : Ref sig .tc := ⟨.hbm, 97, rfl⟩
abbrev main_v57 : Ref sig .tc := ⟨.hbm, 98, rfl⟩
abbrev main_v58 : Ref sig .tc := ⟨.hbm, 99, rfl⟩
abbrev main_c_24 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_25 : Ref sig .tc := ⟨.hbm, 104, rfl⟩
abbrev main_v62 : Ref sig .tc := ⟨.hbm, 105, rfl⟩
abbrev main_v63 : Ref sig .tc := ⟨.hbm, 106, rfl⟩
abbrev main_cst_26 : Ref sig .tc := ⟨.hbm, 107, rfl⟩
abbrev main_v64 : Ref sig .tc := ⟨.hbm, 108, rfl⟩
abbrev main_cst_27 : Ref sig .tc := ⟨.hbm, 109, rfl⟩
abbrev main_call10_v0 : Ref sig .tc := ⟨.hbm, 110, rfl⟩
abbrev main_call10_v1 : Ref sig .tc := ⟨.hbm, 111, rfl⟩
abbrev main_v65 : Ref sig .tc := ⟨.hbm, 112, rfl⟩
abbrev main_cst_28 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_29 : Ref sig .tc := ⟨.hbm, 120, rfl⟩
abbrev main_v72 : Ref sig .tc := ⟨.hbm, 121, rfl⟩
abbrev main_cst_30 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_31 : Ref sig .tc := ⟨.hbm, 128, rfl⟩
abbrev main_call12_v0 : Ref sig .tc := ⟨.hbm, 129, rfl⟩
abbrev main_call12_v1 : Ref sig .tc := ⟨.hbm, 130, rfl⟩
abbrev main_v78 : Ref sig .tc := ⟨.hbm, 131, rfl⟩
abbrev main_cst_32 : Ref sig .tc := ⟨.hbm, 132, rfl⟩
abbrev main_v79 : Ref sig .tc := ⟨.hbm, 133, rfl⟩
abbrev main_v80 : Ref sig .tc := ⟨.hbm, 134, rfl⟩
abbrev main_c_33 : Ref sig .tc := ⟨.hbm, 135, rfl⟩
abbrev main_v81 : Ref sig .tc := ⟨.hbm, 136, rfl⟩
abbrev main_cst_34 : Ref sig .tc := ⟨.hbm, 137, rfl⟩
abbrev main_v82 : Ref sig .tc := ⟨.hbm, 138, rfl⟩
abbrev main_v83 : Ref sig .tc := ⟨.hbm, 139, rfl⟩
abbrev main_c_35 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_c_36 : Ref sig .tc := ⟨.hbm, 144, rfl⟩
abbrev main_v87 : Ref sig .tc := ⟨.hbm, 145, rfl⟩
abbrev main_v88 : Ref sig .tc := ⟨.hbm, 146, rfl⟩
abbrev main_cst_37 : Ref sig .tc := ⟨.hbm, 147, rfl⟩
abbrev main_v89 : Ref sig .tc := ⟨.hbm, 148, rfl⟩
abbrev main_cst_38 : Ref sig .tc := ⟨.hbm, 149, rfl⟩
abbrev main_call14_v0 : Ref sig .tc := ⟨.hbm, 150, rfl⟩
abbrev main_call14_v1 : Ref sig .tc := ⟨.hbm, 151, rfl⟩
abbrev main_v90 : Ref sig .tc := ⟨.hbm, 152, rfl⟩
abbrev main_cst_39 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_c_40 : Ref sig .tc := ⟨.hbm, 160, rfl⟩
abbrev main_v97 : Ref sig .tc := ⟨.hbm, 161, rfl⟩
abbrev main_cst_41 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_42 : Ref sig .tc := ⟨.hbm, 168, rfl⟩
abbrev main_call16_v0 : Ref sig .tc := ⟨.hbm, 169, rfl⟩
abbrev main_call16_v1 : Ref sig .tc := ⟨.hbm, 170, rfl⟩
abbrev main_v103 : Ref sig .tc := ⟨.hbm, 171, rfl⟩
abbrev main_cst_43 : Ref sig .tc := ⟨.hbm, 172, rfl⟩
abbrev main_v104 : Ref sig .tc := ⟨.hbm, 173, rfl⟩
abbrev main_v105 : Ref sig .tc := ⟨.hbm, 174, rfl⟩
abbrev main_c_44 : Ref sig .tc := ⟨.hbm, 175, rfl⟩
abbrev main_v106 : Ref sig .tc := ⟨.hbm, 176, rfl⟩
abbrev main_cst_45 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_46 : Ref sig .tc := ⟨.hbm, 186, rfl⟩
abbrev main_v115 : Ref sig .tc := ⟨.hbm, 187, rfl⟩
abbrev main_cst_47 : Ref sig .tc := ⟨.hbm, 188, rfl⟩
abbrev main_v116 : Ref sig .tc := ⟨.hbm, 189, rfl⟩
abbrev main_cst_48 : Ref sig .tc := ⟨.hbm, 190, rfl⟩
abbrev main_v117 : Ref sig .tc := ⟨.hbm, 191, rfl⟩
abbrev main_cst_49 : Ref sig .tc := ⟨.hbm, 192, rfl⟩
abbrev main_v118 : Ref sig .tc := ⟨.hbm, 193, rfl⟩
abbrev main_v119 : Ref sig .tc := ⟨.hbm, 194, rfl⟩
abbrev main_cst_50 : Ref sig .tc := ⟨.hbm, 195, rfl⟩
abbrev main_v120 : Ref sig .tc := ⟨.hbm, 196, rfl⟩
abbrev main_cst_51 : Ref sig .tc := ⟨.hbm, 197, rfl⟩
abbrev main_v121 : Ref sig .tc := ⟨.hbm, 198, rfl⟩
abbrev main_cst_52 : Ref sig .tc := ⟨.hbm, 199, rfl⟩
abbrev main_cst_53 : Ref sig .tc := ⟨.hbm, 200, rfl⟩
abbrev main_call18_v0 : Ref sig .tc := ⟨.hbm, 201, rfl⟩
abbrev main_call18_v1 : Ref sig .tc := ⟨.hbm, 202, rfl⟩
abbrev main_call18_v2 : Ref sig .tc := ⟨.hbm, 203, rfl⟩
abbrev main_v122 : Ref sig .tc := ⟨.hbm, 204, rfl⟩
abbrev main_cst_54 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_55 : Ref sig .tc := ⟨.hbm, 212, rfl⟩
abbrev main_v129 : Ref sig .tc := ⟨.hbm, 213, rfl⟩
abbrev main_cst_56 : Ref sig .tc := ⟨.hbm, 214, rfl⟩
abbrev main_v130 : Ref sig .tc := ⟨.hbm, 215, rfl⟩
abbrev main_cst_57 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_cst_58 : Ref sig .tc := ⟨.hbm, 220, rfl⟩
abbrev main_v134 : Ref sig .tc := ⟨.hbm, 221, rfl⟩
abbrev main_cst_59 : Ref sig .tc := ⟨.hbm, 222, rfl⟩
abbrev main_v135 : Ref sig .tc := ⟨.hbm, 223, rfl⟩

abbrev nD : Nat := 1
abbrev τ : Topo := Topo.v7x

variable {F : FTy → Type} [FloatOps F]
-- ==== Proof.Setup.lean ====
/-
  The setting of the run: the program as the launch theorem sees it, the ghost state's algebra (the handshakes' rounds,
  the pipeline's rounds, the transfers' counters), and the names of the arrays the SparseCore call works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the TensorCore's pipelines, which the SparseCore's configuration extends. -/
abbrev ΛP : Labels := Pipeline.Sig Λ₀ (Fin 1) fun p => (pcfgs (F := F) p).Adm
/-- The SparseCore configuration: one call of a vector-subcore kernel. -/
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's cells and buffers are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The three arrays of the SparseCore call: the first quarter-million faces flattened, the step broadcast to a vector,
    and the rows of partial sums. -/
abbrev xLoc (d : Dev nD) : Loc nD τ sig := (SparseCore.T d).loc main_v1
abbrev aLoc (d : Dev nD) : Loc nD τ sig := (SparseCore.T d).loc main_v2
abbrev oLoc (d : Dev nD) : Loc nD τ sig := (SparseCore.T d).loc main_v3

end Cert.Proof.Quant
-- ==== Proof.Host.lean ====
/-
  The host's lines of the program as lists of operations: before the SparseCore call, between the two calls, and after
  the TensorCore's.
-/
module

public import proofs.«01_k».proof.Proof.Setup
public import Idealize.ShloMosaic.Lib.StableHlo.Run
public import Idealize.ShloMosaic.Lib.Pipeline.Frame

@[expose] public section

noncomputable section

namespace Cert.Proof.Quant

open Cert.KernelIdeal Cert.KernelIdeal.Gen
open Idealize.ShloMosaic Idealize.ShloMosaic.TcCoe Idealize.SL.Sem Idealize.ShloMosaic.StableHlo

variable {F : FTy → Type} [FloatOps F]

/-- What the SparseCore call reads: the first four of the 64 rows flattened, the step as a vector of sixteen. -/
abbrev preOps : List (HloOp τ sig (Elt F)) :=
  [ unary main_arg0 main_v0 ((extractStridedSlice S4x256x56x56 ![0, 0, 0, 0] · slices_S64x256x56x56_S4x256x56x56_0_0_0_0) : (⟨S64x256x56x56, .f32⟩ : BufTy).Contents (Elt F) → (⟨S4x256x56x56, .f32⟩ : BufTy).Contents (Elt F)),
    reshape main_v0 main_v1 (rfl : (.f32 : EltTy) = .f32) shapeCasts_S4x256x56x56_S3211264,
    unary main_arg1 main_v2 (broadcastInDim S16 ![] bcast_S_S16 : (⟨S_, .f32⟩ : BufTy).Contents (Elt F) → (⟨S16, .f32⟩ : BufTy).Contents (Elt F)) ]

/-- What the TensorCore call reads besides: the step as a vector of eight. -/
abbrev midOps : List (HloOp τ sig (Elt F)) :=
  [ unary main_arg1 main_v4 (broadcastInDim S8 ![] bcast_S_S8 : (⟨S_, .f32⟩ : BufTy).Contents (Elt F) → (⟨S8, .f32⟩ : BufTy).Contents (Elt F)) ]

/-- The two calls' partial sums added up. -/
abbrev sumOps : List (HloOp τ sig (Elt F)) :=
  [ reshape main_v3 main_v6 (rfl : (.f32 : EltTy) = .f32) shapeCasts_S32x208_S32x13x16,
    nullary main_cst (constant S_ .f32 0x00000000#32),
    binary main_v6 main_cst main_v7 ((fun x v => Host.reduceAdd x v reducesTo_S32x13x16_S13_d0_2 h_S_) : (⟨S32x13x16, .f32⟩ : BufTy).Contents (Elt F) → (⟨S_, .f32⟩ : BufTy).Contents (Elt F) → (⟨S13, .f32⟩ : BufTy).Contents (Elt F)),
    nullary main_cst_0 (constant S_ .f32 0x00000000#32),
    binary main_v5 main_cst_0 main_v8 ((fun x v => Host.reduceAdd x v reducesTo_S13x8x56_S13_d1_2 h_S_) : (⟨S13x8x56, .f32⟩ : BufTy).Contents (Elt F) → (⟨S_, .f32⟩ : BufTy).Contents (Elt F) → (⟨S13, .f32⟩ : BufTy).Contents (Elt F)),
    binary main_v7 main_v8 main_v9 (addf : (⟨S13, .f32⟩ : BufTy).Contents (Elt F) → (⟨S13, .f32⟩ : BufTy).Contents (Elt F) → (⟨S13, .f32⟩ : BufTy).Contents (Elt F)) ]

/-- The thirteen totals one by one, and from them the four buckets' counts and sums. -/
abbrev momentOps : List (HloOp τ sig (Elt F)) :=
  [ unary main_v9 main_v10 ((extractStridedSlice S1 ![0] · slices_S13_S1_0) : (⟨S13, .f32⟩ : BufTy).Contents (Elt F) → (⟨S1, .f32⟩ : BufTy).Contents (Elt F)),
    reshape main_v10 main_v11 (rfl : (.f32 : EltTy) = .f32) shapeCasts_S1_S_,
    unary main_v9 main_v12 ((extractStridedSlice S1 ![1] · slices_S13_S1_1) : (⟨S13, .f32⟩ : BufTy).Contents (Elt F) → (⟨S1, .f32⟩ : BufTy).Contents (Elt F)),
    reshape main_v12 main_v13 (rfl : (.f32 : EltTy) = .f32) shapeCasts_S1_S_,
    unary main_v9 main_v14 ((extractStridedSlice S1 ![2] · slices_S13_S1_2) : (⟨S13, .f32⟩ : BufTy).Contents (Elt F) → (⟨S1, .f32⟩ : BufTy).Contents (Elt F)),
    reshape main_v14 main_v15 (rfl : (.f32 : EltTy) = .f32) shapeCasts_S1_S_,
    unary main_v9 main_v16 ((extractStridedSlice S1 ![3] · slices_S13_S1_3) : (⟨S13, .f32⟩ : BufTy).Contents (Elt F) → (⟨S1, .f32⟩ : BufTy).Contents (Elt F)),
    reshape main_v16 main_v17 (rfl : (.f32 : EltTy) = .f32) shapeCasts_S1_S_,
    unary main_v9 main_v18 ((extractStridedSlice S1 ![4] · slices_S13_S1_4) : (⟨S13, .f32⟩ : BufTy).Contents (Elt F) → (⟨S1, .f32⟩ : BufTy).Contents (Elt F)),
    reshape main_v18 main_v19 (rfl : (.f32 : EltTy) = .f32) shapeCasts_S1_S_,
    unary main_v9 main_v20 ((extractStridedSlice S1 ![5] · slices_S13_S1_5) : (⟨S13, .f32⟩ : BufTy).Contents (Elt F) → (⟨S1, .f32⟩ : BufTy).Contents (Elt F)),
    reshape main_v20 main_v21 (rfl : (.f32 : EltTy) = .f32) shapeCasts_S1_S_,
    unary main_v9 main_v22 ((extractStridedSlice S1 ![6] · slices_S13_S1_6) : (⟨S13, .f32⟩ : BufTy).Contents (Elt F) → (⟨S1, .f32⟩ : BufTy).Contents (Elt F)),
    reshape main_v22 main_v23 (rfl : (.f32 : EltTy) = .f32) shapeCasts_S1_S_,
    unary main_v9 main_v24 ((extractStridedSlice S1 ![7] · slices_S13_S1_7) : (⟨S13, .f32⟩ : BufTy).Contents (Elt F) → (⟨S1, .f32⟩ : BufTy).Contents (Elt F)),
    reshape main_v24 main_v25 (rfl : (.f32 : EltTy) = .f32) shapeCasts_S1_S_,
    unary main_v9 main_v26 ((extractStridedSlice S1 ![8] · slices_S13_S1_8) : (⟨S13, .f32⟩ : BufTy).Contents (Elt F) → (⟨S1, .f32⟩ : BufTy).Contents (Elt F)),
    reshape main_v26 main_v27 (rfl : (.f32 : EltTy) = .f32) shapeCasts_S1_S_,
    unary main_v9 main_v28 ((extractStridedSlice S1 ![9] · slices_S13_S1_9) : (⟨S13, .f32⟩ : BufTy).Contents (Elt F) → (⟨S1, .f32⟩ : BufTy).Contents (Elt F)),
    reshape main_v28 main_v29 (rfl : (.f32 : EltTy) = .f32) shapeCasts_S1_S_,
    unary main_v9 main_v30 ((extractStridedSlice S1 ![10] · slices_S13_S1_10) : (⟨S13, .f32⟩ : BufTy).Contents (Elt F) → (⟨S1, .f32⟩ : BufTy).Contents (Elt F)),
    reshape main_v30 main_v31 (rfl : (.f32 : EltTy) = .f32) shapeCasts_S1_S_,
    unary main_v9 main_v32 ((extractStridedSlice S1 ![11] · slices_S13_S1_11) : (⟨S13, .f32⟩ : BufTy).Contents (Elt F) → (⟨S1, .f32⟩ : BufTy).Contents (Elt F)),
    reshape main_v32 main_v33 (rfl : (.f32 : EltTy) = .f32) shapeCasts_S1_S_,
    unary main_v9 main_v34 ((extractStridedSlice S1 ![12] · slices_S13_S1_12) : (⟨S13, .f32⟩ : BufTy).Contents (Elt F) → (⟨S1, .f32⟩ : BufTy).Contents (Elt F)),
    reshape main_v34 main_v35 (rfl : (.f32 : EltTy) = .f32) shapeCasts_S1_S_,
    nullary main_cst_1 (constant S_ .f32 0x4C440000#32),
    binary main_cst_1 main_v11 main_v36 (subf : (⟨S_, .f32⟩ : BufTy).Contents (Elt F) → (⟨S_, .f32⟩ : BufTy).Contents (Elt F) → (⟨S_, .f32⟩ : BufTy).Contents (Elt F)),
    binary main_v11 main_v13 main_v37 (subf : (⟨S_, .f32⟩ : BufTy).Contents (Elt F) → (⟨S_, .f32⟩ : BufTy).Contents (Elt F) → (⟨S_, .f32⟩ : BufTy).Contents (Elt F)),
    binary main_v13 main_v15 main_v38 (subf : (⟨S_, .f32⟩ : BufTy).Contents (Elt F) → (⟨S_, .f32⟩ : BufTy).Contents (Elt F) → (⟨S_, .f32⟩ : BufTy).Contents (Elt F)),
    unary main_v36 main_v39 (broadcastInDim S1 ![] bcast_S_S1 : (⟨S_, .f32⟩ : BufTy).Contents (Elt F) → (⟨S1, .f32⟩ : BufTy).Contents (Elt F)),
    unary main_v37 main_v40 (broadcastInDim S1 ![] bcast_S_S1 : (⟨S_, .f32⟩ : BufTy).Contents (Elt F) → (⟨S1, .f32⟩ : BufTy).Contents (Elt F)),
    unary main_v38 main_v41 (broadcastInDim S1 ![] bcast_S_S1 : (⟨S_, .f32⟩ : BufTy).Contents (Elt F) → (⟨S1, .f32⟩ : BufTy).Contents (Elt F)),
    unary main_v15 main_v42 (broadcastInDim S1 ![] bcast_S_S1 : (⟨S_, .f32⟩ : BufTy).Contents (Elt F) → (⟨S1, .f32⟩ : BufTy).Contents (Elt F)),
    nary ![main_v39, main_v40, main_v41, main_v42] main_v43 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
    binary main_v17 main_v19 main_v44 (subf : (⟨S_, .f32⟩ : BufTy).Contents (Elt F) → (⟨S_, .f32⟩ : BufTy).Contents (Elt F) → (⟨S_, .f32⟩ : BufTy).Contents (Elt F)),
    binary main_v19 main_v21 main_v45 (subf : (⟨S_, .f32⟩ : BufTy).Contents (Elt F) → (⟨S_, .f32⟩ : BufTy).Contents (Elt F) → (⟨S_, .f32⟩ : BufTy).Contents (Elt F)),
    binary main_v21 main_v23 main_v46 (subf : (⟨S_, .f32⟩ : BufTy).Contents (Elt F) → (⟨S_, .f32⟩ : BufTy).Contents (Elt F) → (⟨S_, .f32⟩ : BufTy).Contents (Elt F)),
    unary main_v44 main_v47 (broadcastInDim S1 ![] bcast_S_S1 : (⟨S_, .f32⟩ : BufTy).Contents (Elt F) → (⟨S1, .f32⟩ : BufTy).Contents (Elt F)),
    unary main_v45 main_v48 (broadcastInDim S1 ![] bcast_S_S1 : (⟨S_, .f32⟩ : BufTy).Contents (Elt F) → (⟨S1, .f32⟩ : BufTy).Contents (Elt F)),
    unary main_v46 main_v49 (broadcastInDim S1 ![] bcast_S_S1 : (⟨S_, .f32⟩ : BufTy).Contents (Elt F) → (⟨S1, .f32⟩ : BufTy).Contents (Elt F)),
    unary main_v23 main_v50 (broadcastInDim S1 ![] bcast_S_S1 : (⟨S_, .f32⟩ : BufTy).Contents (Elt F) → (⟨S1, .f32⟩ : BufTy).Contents (Elt F)),
    nary ![main_v47, main_v48, main_v49, main_v50] main_v51 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
    binary main_v25 main_v27 main_v52 (subf : (⟨S_, .f32⟩ : BufTy).Contents (Elt F) → (⟨S_, .f32⟩ : BufTy).Contents (Elt F) → (⟨S_, .f32⟩ : BufTy).Contents (Elt F)),
    binary main_v27 main_v29 main_v53 (subf : (⟨S_, .f32⟩ : BufTy).Contents (Elt F) → (⟨S_, .f32⟩ : BufTy).Contents (Elt F) → (⟨S_, .f32⟩ : BufTy).Contents (Elt F)),
    binary main_v29 main_v31 main_v54 (subf : (⟨S_, .f32⟩ : BufTy).Contents (Elt F) → (⟨S_, .f32⟩ : BufTy).Contents (Elt F) → (⟨S_, .f32⟩ : BufTy).Contents (Elt F)),
    unary main_v52 main_v55 (broadcastInDim S1 ![] bcast_S_S1 : (⟨S_, .f32⟩ : BufTy).Contents (Elt F) → (⟨S1, .f32⟩ : BufTy).Contents (Elt F)),
    unary main_v53 main_v56 (broadcastInDim S1 ![] bcast_S_S1 : (⟨S_, .f32⟩ : BufTy).Contents (Elt F) → (⟨S1, .f32⟩ : BufTy).Contents (Elt F)) ]

/-- The buckets' sums of squares, the four levels, the counts not below one. -/
abbrev levelOps : List (HloOp τ sig (Elt F)) :=
  [ unary main_v54 main_v57 (broadcastInDim S1 ![] bcast_S_S1 : (⟨S_, .f32⟩ : BufTy).Contents (Elt F) → (⟨S1, .f32⟩ : BufTy).Contents (Elt F)),
    unary main_v31 main_v58 (broadcastInDim S1 ![] bcast_S_S1 : (⟨S_, .f32⟩ : BufTy).Contents (Elt F) → (⟨S1, .f32⟩ : BufTy).Contents (Elt F)),
    nary ![main_v55, main_v56, main_v57, main_v58] main_v59 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
    nullary main_v60 (sitofp .f32 (iotaInDim S4 32 0)),
    unary main_arg1 main_v61 (broadcastInDim S4 ![] bcast_S_S4 : (⟨S_, .f32⟩ : BufTy).Contents (Elt F) → (⟨S4, .f32⟩ : BufTy).Contents (Elt F)),
    binary main_v60 main_v61 main_v62 (mulf : (⟨S4, .f32⟩ : BufTy).Contents (Elt F) → (⟨S4, .f32⟩ : BufTy).Contents (Elt F) → (⟨S4, .f32⟩ : BufTy).Contents (Elt F)),
    nullary main_cst_2 (constant S_ .f32 0x3F800000#32),
    unary main_cst_2 main_v63 (broadcastInDim S4 ![] bcast_S_S4 : (⟨S_, .f32⟩ : BufTy).Contents (Elt F) → (⟨S4, .f32⟩ : BufTy).Contents (Elt F)),
    binary main_v43 main_v63 main_v64 (maximumf : (⟨S4, .f32⟩ : BufTy).Contents (Elt F) → (⟨S4, .f32⟩ : BufTy).Contents (Elt F) → (⟨S4, .f32⟩ : BufTy).Contents (Elt F)) ]

/-- The two losses and their sum. -/
abbrev lossOps : List (HloOp τ sig (Elt F)) :=
  [ binary main_v51 main_v64 main_v65 (Host.divf : (⟨S4, .f32⟩ : BufTy).Contents (Elt F) → (⟨S4, .f32⟩ : BufTy).Contents (Elt F) → (⟨S4, .f32⟩ : BufTy).Contents (Elt F)),
    nullary main_cst_3 (constant S_ .f32 0x00000000#32),
    unary main_cst_3 main_v66 (broadcastInDim S4 ![] bcast_S_S4 : (⟨S_, .f32⟩ : BufTy).Contents (Elt F) → (⟨S4, .f32⟩ : BufTy).Contents (Elt F)),
    binary main_v43 main_v66 main_v67 (cmpf .ogt : (⟨S4, .f32⟩ : BufTy).Contents (Elt F) → (⟨S4, .f32⟩ : BufTy).Contents (Elt F) → (⟨S4, .i1⟩ : BufTy).Contents (Elt F)),
    binary main_v65 main_v62 main_v68 (subf : (⟨S4, .f32⟩ : BufTy).Contents (Elt F) → (⟨S4, .f32⟩ : BufTy).Contents (Elt F) → (⟨S4, .f32⟩ : BufTy).Contents (Elt F)),
    binary main_v68 main_v68 main_v69 (mulf : (⟨S4, .f32⟩ : BufTy).Contents (Elt F) → (⟨S4, .f32⟩ : BufTy).Contents (Elt F) → (⟨S4, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S4, .f32⟩) main_call0_v1) (broadcastInDim S4 ![] bcast_S_S4),
    TRef.ternary (TRef.of (T := ⟨S4, .i1⟩) main_v67) (TRef.of (T := ⟨S4, .f32⟩) main_v69) (TRef.of (T := ⟨S4, .f32⟩) main_call0_v1) (TRef.of (T := ⟨S4, .f32⟩) main_v70) select,
    nullary main_cst_5 (constant S_ .f32 0x00000000#32),
    binary main_v70 main_cst_5 main_v71 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_6 (constant S_ .f32 0x40000000#32),
    unary main_cst_6 main_v72 (broadcastInDim S4 ![] bcast_S_S4 : (⟨S_, .f32⟩ : BufTy).Contents (Elt F) → (⟨S4, .f32⟩ : BufTy).Contents (Elt F)),
    binary main_v72 main_v65 main_v73 (mulf : (⟨S4, .f32⟩ : BufTy).Contents (Elt F) → (⟨S4, .f32⟩ : BufTy).Contents (Elt F) → (⟨S4, .f32⟩ : BufTy).Contents (Elt F)),
    binary main_v73 main_v51 main_v74 (mulf : (⟨S4, .f32⟩ : BufTy).Contents (Elt F) → (⟨S4, .f32⟩ : BufTy).Contents (Elt F) → (⟨S4, .f32⟩ : BufTy).Contents (Elt F)),
    binary main_v59 main_v74 main_v75 (subf : (⟨S4, .f32⟩ : BufTy).Contents (Elt F) → (⟨S4, .f32⟩ : BufTy).Contents (Elt F) → (⟨S4, .f32⟩ : BufTy).Contents (Elt F)),
    binary main_v43 main_v65 main_v76 (mulf : (⟨S4, .f32⟩ : BufTy).Contents (Elt F) → (⟨S4, .f32⟩ : BufTy).Contents (Elt F) → (⟨S4, .f32⟩ : BufTy).Contents (Elt F)),
    binary main_v76 main_v65 main_v77 (mulf : (⟨S4, .f32⟩ : BufTy).Contents (Elt F) → (⟨S4, .f32⟩ : BufTy).Contents (Elt F) → (⟨S4, .f32⟩ : BufTy).Contents (Elt F)),
    binary main_v75 main_v77 main_v78 (addf : (⟨S4, .f32⟩ : BufTy).Contents (Elt F) → (⟨S4, .f32⟩ : BufTy).Contents (Elt F) → (⟨S4, .f32⟩ : BufTy).Contents (Elt F)),
    binary main_v78 main_v64 main_v79 (Host.divf : (⟨S4, .f32⟩ : BufTy).Contents (Elt F) → (⟨S4, .f32⟩ : BufTy).Contents (Elt F) → (⟨S4, .f32⟩ : BufTy).Contents (Elt F)),
    nullary main_cst_7 (constant S_ .f32 0x40000000#32),
    unary main_cst_7 main_v80 (broadcastInDim S4 ![] bcast_S_S4 : (⟨S_, .f32⟩ : BufTy).Contents (Elt F) → (⟨S4, .f32⟩ : BufTy).Contents (Elt F)),
    binary main_v43 main_v80 main_v81 (cmpf .oge : (⟨S4, .f32⟩ : BufTy).Contents (Elt F) → (⟨S4, .f32⟩ : BufTy).Contents (Elt F) → (⟨S4, .i1⟩ : BufTy).Contents (Elt F)),
    nullary main_cst_8 (constant S_ .f32 0x00000000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S4, .f32⟩) main_call1_v1) (broadcastInDim S4 ![] bcast_S_S4),
    TRef.ternary (TRef.of (T := ⟨S4, .i1⟩) main_v81) (TRef.of (T := ⟨S4, .f32⟩) main_v79) (TRef.of (T := ⟨S4, .f32⟩) main_call1_v1) (TRef.of (T := ⟨S4, .f32⟩) main_v82) select,
    nullary main_cst_9 (constant S_ .f32 0x00000000#32),
    binary main_v82 main_cst_9 main_v83 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v71 main_v83 main_v84 (addf : (⟨S_, .f32⟩ : BufTy).Contents (Elt F) → (⟨S_, .f32⟩ : BufTy).Contents (Elt F) → (⟨S_, .f32⟩ : BufTy).Contents (Elt F)) ]

/-- The squared and the absolute error over the elements. -/
abbrev errorOps : List (HloOp τ sig (Elt F)) :=
  [ nullary main_cst_10 (constant S_ .f32 0x40000000#32),
    unary main_cst_10 main_v85 (broadcastInDim S4 ![] bcast_S_S4 : (⟨S_, .f32⟩ : BufTy).Contents (Elt F) → (⟨S4, .f32⟩ : BufTy).Contents (Elt F)),
    binary main_v85 main_v62 main_v86 (mulf : (⟨S4, .f32⟩ : BufTy).Contents (Elt F) → (⟨S4, .f32⟩ : BufTy).Contents (Elt F) → (⟨S4, .f32⟩ : BufTy).Contents (Elt F)),
    binary main_v86 main_v51 main_v87 (mulf : (⟨S4, .f32⟩ : BufTy).Contents (Elt F) → (⟨S4, .f32⟩ : BufTy).Contents (Elt F) → (⟨S4, .f32⟩ : BufTy).Contents (Elt F)),
    binary main_v59 main_v87 main_v88 (subf : (⟨S4, .f32⟩ : BufTy).Contents (Elt F) → (⟨S4, .f32⟩ : BufTy).Contents (Elt F) → (⟨S4, .f32⟩ : BufTy).Contents (Elt F)),
    binary main_v43 main_v62 main_v89 (mulf : (⟨S4, .f32⟩ : BufTy).Contents (Elt F) → (⟨S4, .f32⟩ : BufTy).Contents (Elt F) → (⟨S4, .f32⟩ : BufTy).Contents (Elt F)),
    binary main_v89 main_v62 main_v90 (mulf : (⟨S4, .f32⟩ : BufTy).Contents (Elt F) → (⟨S4, .f32⟩ : BufTy).Contents (Elt F) → (⟨S4, .f32⟩ : BufTy).Contents (Elt F)),
    binary main_v88 main_v90 main_v91 (addf : (⟨S4, .f32⟩ : BufTy).Contents (Elt F) → (⟨S4, .f32⟩ : BufTy).Contents (Elt F) → (⟨S4, .f32⟩ : BufTy).Contents (Elt F)),
    nullary main_cst_11 (constant S_ .f32 0x00000000#32),
    binary main_v91 main_cst_11 main_v92 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_12 (constant S_ .f32 0x4C440000#32),
    binary main_v92 main_cst_12 main_v93 (Host.divf : (⟨S_, .f32⟩ : BufTy).Contents (Elt F) → (⟨S_, .f32⟩ : BufTy).Contents (Elt F) → (⟨S_, .f32⟩ : BufTy).Contents (Elt F)),
    nullary main_cst_13 (constant S_ .f32 0x4C440000#32),
    binary main_v33 main_cst_13 main_v94 (Host.divf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_arg1 main_cst_14 main_v95 (mulf : (⟨S_, .f32⟩ : BufTy).Contents (Elt F) → (⟨S_, .f32⟩ : BufTy).Contents (Elt F) → (⟨S_, .f32⟩ : BufTy).Contents (Elt F)),
    nullary main_cst_15 (constant S_ .f32 0x2B8CBCCC#32),
    binary main_v95 main_cst_15 main_v96 (addf : (⟨S_, .f32⟩ : BufTy).Contents (Elt F) → (⟨S_, .f32⟩ : BufTy).Contents (Elt F) → (⟨S_, .f32⟩ : BufTy).Contents (Elt F)),
    binary main_v94 main_v96 main_v97 (Host.divf : (⟨S_, .f32⟩ : BufTy).Contents (Elt F) → (⟨S_, .f32⟩ : BufTy).Contents (Elt F) → (⟨S_, .f32⟩ : BufTy).Contents (Elt F)),
    nullary main_cst_16 (constant S_ .f32 0x3F800000#32),
    binary main_cst_16 main_v97 main_v98 (subf : (⟨S_, .f32⟩ : BufTy).Contents (Elt F) → (⟨S_, .f32⟩ : BufTy).Contents (Elt F) → (⟨S_, .f32⟩ : BufTy).Contents (Elt F)),
    nullary main_cst_17 (constant S_ .f32 0x42C80000#32),
    binary main_cst_17 main_v98 main_v99 (mulf : (⟨S_, .f32⟩ : BufTy).Contents (Elt F) → (⟨S_, .f32⟩ : BufTy).Contents (Elt F) → (⟨S_, .f32⟩ : BufTy).Contents (Elt F)),
    nullary main_cst_18 (constant S_ .f32 0x00000000#32) ]

/-- The clipped effectiveness and the share of elements near a level. -/
abbrev shareOps : List (HloOp τ sig (Elt F)) :=
  [ nullary main_cst_19 (constant S_ .f32 0x42C80000#32),
    TRef.unary (TRef.of (T := ⟨S_, .f32⟩) main_cst_18) (TRef.of (T := ⟨S_, .f32⟩) main_call2_v0) id,
    TRef.binary (TRef.of (T := ⟨S_, .f32⟩) main_call2_v0) (TRef.of (T := ⟨S_, .f32⟩) main_v99) (TRef.of (T := ⟨S_, .f32⟩) main_call2_v1) maximumf,
    TRef.unary (TRef.of (T := ⟨S_, .f32⟩) main_cst_19) (TRef.of (T := ⟨S_, .f32⟩) main_call2_v2) id,
    TRef.binary (TRef.of (T := ⟨S_, .f32⟩) main_call2_v2) (TRef.of (T := ⟨S_, .f32⟩) main_call2_v1) (TRef.of (T := ⟨S_, .f32⟩) main_v100) minimumf,
    nullary main_cst_20 (constant S_ .f32 0x4C440000#32),
    binary main_v35 main_cst_20 main_v101 (Host.divf : (⟨S_, .f32⟩ : BufTy).Contents (Elt F) → (⟨S_, .f32⟩ : BufTy).Contents (Elt F) → (⟨S_, .f32⟩ : BufTy).Contents (Elt F)),
    nullary main_cst_21 (constant S_ .f32 0x42C80000#32),
    binary main_v101 main_cst_21 main_v102 (mulf : (⟨S_, .f32⟩ : BufTy).Contents (Elt F) → (⟨S_, .f32⟩ : BufTy).Contents (Elt F) → (⟨S_, .f32⟩ : BufTy).Contents (Elt F)) ]

theorem preOps_sub : (preOps : List (HloOp τ sig (Elt F))).Forall fun op => op.bufs ⊆ tcRefs τ sig :=
  ⟨unary_bufs_sub .., reshape_bufs_sub .., unary_bufs_sub ..⟩
theorem preOps_fresh : (preOps : List (HloOp τ sig (Elt F))).Forall fun op => op.fresh = ∅ :=
  ⟨rfl, rfl, rfl⟩

theorem midOps_sub : (midOps : List (HloOp τ sig (Elt F))).Forall fun op => op.bufs ⊆ tcRefs τ sig :=
  unary_bufs_sub ..
theorem midOps_fresh : (midOps : List (HloOp τ sig (Elt F))).Forall fun op => op.fresh = ∅ :=
  rfl

theorem sumOps_sub : (sumOps : List (HloOp τ sig (Elt F))).Forall fun op => op.bufs ⊆ tcRefs τ sig :=
  ⟨reshape_bufs_sub .., nullary_bufs_sub .., binary_bufs_sub .., nullary_bufs_sub .., binary_bufs_sub .., binary_bufs_sub ..⟩
theorem sumOps_fresh : (sumOps : List (HloOp τ sig (Elt F))).Forall fun op => op.fresh = ∅ :=
  ⟨rfl, rfl, rfl, rfl, rfl, rfl⟩

theorem momentOps_sub : (momentOps : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., binary_bufs_sub .., binary_bufs_sub .., binary_bufs_sub .., unary_bufs_sub .., unary_bufs_sub .., unary_bufs_sub .., unary_bufs_sub .., nary_bufs_sub .., binary_bufs_sub .., binary_bufs_sub .., binary_bufs_sub .., unary_bufs_sub .., unary_bufs_sub .., unary_bufs_sub .., unary_bufs_sub .., nary_bufs_sub .., binary_bufs_sub .., binary_bufs_sub .., binary_bufs_sub .., unary_bufs_sub .., unary_bufs_sub ..⟩
theorem momentOps_fresh : (momentOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem levelOps_sub : (levelOps : List (HloOp τ sig (Elt F))).Forall fun op => op.bufs ⊆ tcRefs τ sig :=
  ⟨unary_bufs_sub .., unary_bufs_sub .., nary_bufs_sub .., nullary_bufs_sub .., unary_bufs_sub .., binary_bufs_sub .., nullary_bufs_sub .., unary_bufs_sub .., binary_bufs_sub ..⟩
theorem levelOps_fresh : (levelOps : List (HloOp τ sig (Elt F))).Forall fun op => op.fresh = ∅ :=
  ⟨rfl, rfl, rfl, rfl, rfl, rfl, rfl, rfl, rfl⟩

theorem lossOps_sub : (lossOps : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub ..⟩
theorem lossOps_fresh : (lossOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem errorOps_sub : (errorOps : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub ..⟩
theorem errorOps_fresh : (errorOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem shareOps_sub : (shareOps : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., nullary_bufs_sub .., binary_bufs_sub ..⟩
theorem shareOps_fresh : (shareOps : List (HloOp τ sig (Elt F))).Forall fun op => op.fresh = ∅ :=
  ⟨rfl, rfl, rfl, rfl, rfl, rfl, rfl, rfl, rfl⟩

/-- Every line after the TensorCore call. -/
def tailOps : List (HloOp τ sig (Elt F)) :=
  sumOps ++ (momentOps ++ (levelOps ++ (lossOps ++ (errorOps ++ (shareOps)))))

theorem tailOps_sub : ∀ op ∈ (tailOps : List (HloOp τ sig (Elt F))), op.bufs ⊆ tcRefs τ sig := fun op h => by
  simp only [tailOps, List.mem_append] at h
  rcases h with h | h | h | h | h | h
  exacts [List.forall_iff_forall_mem.mp sumOps_sub op h, List.forall_iff_forall_mem.mp momentOps_sub op h, List.forall_iff_forall_mem.mp levelOps_sub op h, List.forall_iff_forall_mem.mp lossOps_sub op h, List.forall_iff_forall_mem.mp errorOps_sub op h, List.forall_iff_forall_mem.mp shareOps_sub op h]

theorem tailOps_fresh : ∀ op ∈ (tailOps : List (HloOp τ sig (Elt F))), op.fresh = ∅ := fun op h => by
  simp only [tailOps, List.mem_append] at h
  rcases h with h | h | h | h | h | h
  exacts [List.forall_iff_forall_mem.mp sumOps_fresh op h, List.forall_iff_forall_mem.mp momentOps_fresh op h, List.forall_iff_forall_mem.mp levelOps_fresh op h, List.forall_iff_forall_mem.mp lossOps_fresh op h, List.forall_iff_forall_mem.mp errorOps_fresh op h, List.forall_iff_forall_mem.mp shareOps_fresh op h]

/-- The signature the whole program's calls are made in. -/
abbrev ΛM : Labels := SparseCore.Sig (ΛP (F := F)) 1

set_option maxRecDepth 8192 in
set_option maxHeartbeats 4000000 in
theorem part0_eq (d : Dev nD) : main_part0 (F := F) d = (seq preOps >>= fun _ => (K (F := F)).run d 0 >>= fun _ => seq midOps >>= fun _ =>
    Prog.lift (.customCall (SparseCore.inner (Pipeline.entry 0)) ()) >>= fun _ => seq (sumOps ++ momentOps)) := rfl
set_option maxRecDepth 8192 in
set_option maxHeartbeats 4000000 in
theorem part1_eq (d : Dev nD) : main_part1 (F := F) d = seq (levelOps ++ (lossOps ++ errorOps)) := rfl
set_option maxRecDepth 8192 in
theorem part2_eq (d : Dev nD) : main_part2 (F := F) d = seq shareOps := rfl

/-- The program of the TensorCore: lines, the SparseCore call, a line, the TensorCore call, lines. -/
theorem main_eq (d : Dev nD) : main (F := F) d = (seq preOps >>= fun _ => (K (F := F)).run d 0 >>= fun _ => seq midOps >>= fun _ =>
    Prog.lift (.customCall (SparseCore.inner (Pipeline.entry 0)) ()) >>= fun _ => seq tailOps) := by
  have h : main (F := F) d = (main_part0 d >>= fun _ => main_part1 d >>= fun _ => main_part2 d) := rfl
  rw [h, part0_eq, part1_eq, part2_eq]
  simp only [bind_assoc, tailOps, seq_append]

/-- What `preOps` writes. -/
abbrev preOps_W : List (Ref sig .tc) := [main_v0, main_v1, main_v2]
theorem preOps_writes : (preOps : List (HloOp τ sig (Elt F))).Forall fun op => op.writes ⊆ (preOps_W.map (Proc.devRef (τ := τ) .tc)).toFinset :=
  forall_writes_sub_of_map rfl

/-- What `midOps` writes. -/
abbrev midOps_W : List (Ref sig .tc) := [main_v4]
theorem midOps_writes : (midOps : List (HloOp τ sig (Elt F))).Forall fun op => op.writes ⊆ (midOps_W.map (Proc.devRef (τ := τ) .tc)).toFinset :=
  forall_writes_sub_of_map rfl

/-- What `sumOps` writes. -/
abbrev sumOps_W : List (Ref sig .tc) := [main_v6, main_cst, main_v7, main_cst_0, main_v8, main_v9]
theorem sumOps_writes : (sumOps : List (HloOp τ sig (Elt F))).Forall fun op => op.writes ⊆ (sumOps_W.map (Proc.devRef (τ := τ) .tc)).toFinset :=
  forall_writes_sub_of_map rfl

/-- What `momentOps` writes. -/
abbrev momentOps_W : List (Ref sig .tc) := [main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_cst_1, main_v36, main_v37, main_v38, main_v39, main_v40, main_v41, main_v42, main_v43, main_v44, main_v45, main_v46, main_v47, main_v48, main_v49, main_v50, main_v51, main_v52, main_v53, main_v54, main_v55, main_v56]
theorem momentOps_writes : (momentOps : List (HloOp τ sig (Elt F))).Forall fun op => op.writes ⊆ (momentOps_W.map (Proc.devRef (τ := τ) .tc)).toFinset :=
  forall_writes_sub_of_map rfl

/-- What `levelOps` writes. -/
abbrev levelOps_W : List (Ref sig .tc) := [main_v57, main_v58, main_v59, main_v60, main_v61, main_v62, main_cst_2, main_v63, main_v64]
theorem levelOps_writes : (levelOps : List (HloOp τ sig (Elt F))).Forall fun op => op.writes ⊆ (levelOps_W.map (Proc.devRef (τ := τ) .tc)).toFinset :=
  forall_writes_sub_of_map rfl

/-- What `lossOps` writes. -/
abbrev lossOps_W : List (Ref sig .tc) := [main_v65, main_cst_3, main_v66, main_v67, main_v68, main_v69, main_cst_4, main_call0_v0, main_call0_v1, main_v70, main_cst_5, main_v71, main_cst_6, main_v72, main_v73, main_v74, main_v75, main_v76, main_v77, main_v78, main_v79, main_cst_7, main_v80, main_v81, main_cst_8, main_call1_v0, main_call1_v1, main_v82, main_cst_9, main_v83, main_v84]
theorem lossOps_writes : (lossOps : List (HloOp τ sig (Elt F))).Forall fun op => op.writes ⊆ (lossOps_W.map (Proc.devRef (τ := τ) .tc)).toFinset :=
  forall_writes_sub_of_map rfl

/-- What `errorOps` writes. -/
abbrev errorOps_W : List (Ref sig .tc) := [main_cst_10, main_v85, main_v86, main_v87, main_v88, main_v89, main_v90, main_v91, main_cst_11, main_v92, main_cst_12, main_v93, main_cst_13, main_v94, main_cst_14, main_v95, main_cst_15, main_v96, main_v97, main_cst_16, main_v98, main_cst_17, main_v99, main_cst_18]
theorem errorOps_writes : (errorOps : List (HloOp τ sig (Elt F))).Forall fun op => op.writes ⊆ (errorOps_W.map (Proc.devRef (τ := τ) .tc)).toFinset :=
  forall_writes_sub_of_map rfl

/-- What `shareOps` writes. -/
abbrev shareOps_W : List (Ref sig .tc) := [main_cst_19, main_call2_v0, main_call2_v1, main_call2_v2, main_v100, main_cst_20, main_v101, main_cst_21, main_v102]
theorem shareOps_writes : (shareOps : List (HloOp τ sig (Elt F))).Forall fun op => op.writes ⊆ (shareOps_W.map (Proc.devRef (τ := τ) .tc)).toFinset :=
  forall_writes_sub_of_map rfl

end Cert.Proof.Quant
-- ==== Proof.Fold.lean ====
/-
  What a vector subcore computes, as pure functions: one step of the thirteen running sums on a vector of sixteen
  elements, the fold of a chunk of 12544 elements, the fold of a subcore's eight chunks, and the rows of partial sums
  that the thirty-two subcores leave.
-/
module

public import proofs.«01_k».proof.Proof.Setup

@[expose] public section

noncomputable section

namespace Cert.Proof.Quant

open Cert.KernelIdeal Cert.KernelIdeal.Gen
open Idealize.ShloMosaic

variable {F : FTy → Type} [FloatOps F]

/-- The thirteen running sums of a vector subcore, sixteen lanes each. -/
abbrev Acc (F : FTy → Type) : Type :=
  FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32

/-- The running sums at the start. -/
def acc0 : Acc F :=
  (k0_pay7, k0_pay7, k0_pay7, k0_pay7, k0_pay7, k0_pay7, k0_pay7, k0_pay7, k0_pay7, k0_pay7, k0_pay7, k0_pay7, k0_pay7)

/-- The running sums after one more vector `x`, at step `A`. -/
def accStep (A x : Vec F S16 .f32) (a : Acc F) : Acc F :=
  match a with
  | (a0, a1, a2, a3, a4, a5, a6, a7, a8, a9, a10, a11, a12) =>
    (k0_pay18 A a0 x, k0_pay19 A a1 x, k0_pay20 A a2 x, k0_pay21 a3 x, k0_pay22 A a4 x, k0_pay23 A a5 x, k0_pay24 A a6 x,
      k0_pay25 a7 x, k0_pay26 A a8 x, k0_pay27 A a9 x, k0_pay28 A a10 x, k0_pay29 A a11 x, k0_pay30 A a12 x)

/-- Vector `t` of a chunk: its elements `16 t … 16 t + 15`. -/
def lanes (g : Vec F S12544 .f32) (t : ℕ) : Vec F S16 .f32 :=
  fun j => g (fun | 0 => ⟨(16 * t + (j 0).val) % 12544, Nat.mod_lt _ (by decide)⟩)

/-- The running sums after the first `t` vectors of chunk `g`. -/
def accFold (A : Vec F S16 .f32) (g : Vec F S12544 .f32) (a : Acc F) : ℕ → Acc F
  | 0 => a
  | t + 1 => accStep A (lanes g t) (accFold A g a t)

/-- The running sums after a whole chunk. -/
def accChunk (A : Vec F S16 .f32) (g : Vec F S12544 .f32) (a : Acc F) : Acc F := accFold A g a 784

/-- Chunk `c` of subcore `w`'s stretch of the flat array `X`. -/
def chunk (X : Vec F S3211264 .f32) (w c : ℕ) : Vec F S12544 .f32 :=
  fun j => X (fun | 0 => ⟨(100352 * w + 12544 * c + (j 0).val) % 3211264, Nat.mod_lt _ (by decide)⟩)

/-- The running sums of subcore `w` after its first `c` chunks. -/
def accTile (A : Vec F S16 .f32) (X : Vec F S3211264 .f32) (w : ℕ) : ℕ → Acc F
  | 0 => acc0
  | c + 1 => accChunk A (chunk X w c) (accTile A X w c)

/-- Running sum `k` of the thirteen. -/
def Acc.get (a : Acc F) : ℕ → FVec F S16 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2.1
  | 8 => a.2.2.2.2.2.2.2.2.1
  | 9 => a.2.2.2.2.2.2.2.2.2.1
  | 10 => a.2.2.2.2.2.2.2.2.2.2.1
  | 11 => a.2.2.2.2.2.2.2.2.2.2.2.1
  | _ => a.2.2.2.2.2.2.2.2.2.2.2.2

/-- What a subcore stages: sum `k` in elements `16 k … 16 k + 15`. -/
def staged (a : Acc F) : Vec F S208 .f32 :=
  fun j => a.get ((j 0).val / 16) (fun | 0 => ⟨(j 0).val % 16, Nat.mod_lt _ (by decide)⟩)

/-- The rows of partial sums: row `w` is what subcore `w` staged. -/
def rowsOut (A : Vec F S16 .f32) (X : Vec F S3211264 .f32) : Vec F S32x208 .f32 :=
  fun j => staged (accTile A X (j 0).val 8) (fun | 0 => j 1)

end Cert.Proof.Quant
-- ==== Proof.TileOps.lean ====
/-
  The pieces of a vector subcore's run: the copy of one chunk into a buffer and its wait, and the loop that folds a
  buffer's 784 vectors into the running sums. Each is stated once, over the buffer and the chunk.
-/
module

public import proofs.«01_k».proof.Proof.Fold

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S3211264 EltTy.f32)

/-- The transfers' counters, in the launch's ghost state. -/
abbrev EC : UEmb Counters (MT nD τ sig (HIx 1) (Elt F) ℕ UU ℕ) := countersEmb

abbrev cV (L : grid0.Coords) : Fin τ.nSC := (L 0).castLE hcore0
abbrev jV (L : grid0.Coords) : Fin τ.nSub := (L 1).castLE hsub0
/-- The subcore's number, of thirty-two: twice its place in its SparseCore, plus the SparseCore. -/
abbrev wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

section Copies

variable (d : Dev nD) (L : grid0.Coords)

/-- The thread of the subcore at `L`. -/
abbrev thr : Thread nD τ := V d (cV L) (jV L)

theorem chunk_inb (c : Fin 8) : ∀ a, (![100352 * wid L + 12544 * c.val] : Fin 1 → ℕ) a + S12544.size a ≤ S3211264.size a := by
  intro a
  have := wid_lt L; have := c.isLt
  match a with
  | 0 => show 100352 * wid L + 12544 * c.val + 12544 ≤ 3211264; omega

/-- Chunk `c` of the subcore's stretch of the flat array. -/
abbrev cMem (c : Fin 8) : Memref sig .scVector .hbm S12544 .f32 :=
  (xV).slice (Rect.unit (s := S3211264) ![100352 * wid L + 12544 * c.val] S12544.size (chunk_inb L c)) (fun _ => rfl)

/-- A slice of the flat array at the chunk's offset is the chunk. -/
theorem slice_eq (c : Fin 8) (off : Fin 1 → ℕ) (h : ∀ a, off a + S12544.size a ≤ S3211264.size a)
    (e : off = ![100352 * wid L + 12544 * c.val]) :
    (xV).slice (Rect.unit (s := S3211264) off S12544.size h) (fun _ => rfl) = cMem L c := by
  subst e; rfl

theorem read_cMem (c : Fin 8) (X : Vec F S3211264 .f32) : (cMem L c).view.read (Elt F) X = chunk X (wid L) c.val := by
  funext j
  refine (View.read_apply _ _).trans ((cast_eq _ _).trans ?_)
  unfold chunk
  refine congrArg X (funext fun a => Fin.ext ?_)
  match a with
  | 0 =>
    have hj : (j 0).val < 12544 := (j 0).isLt
    have := wid_lt L; have := c.isLt
    show (100352 * wid L + 12544 * c.val) + 1 * (j 0).val = (100352 * wid L + 12544 * c.val + (j 0).val) % 3211264
    rw [Nat.mod_eq_of_lt (by omega)]; omega

/-- The piece of the flat array that chunk `c`'s copy reads, at share `q`. -/
abbrev xPiece (c : Fin 8) (q : PosShare TreeShare) (X : Vec F S3211264 .f32) : sProp 𝕄 :=
  (cMem L c).view.loc (thr d L) ↦[(cMem L c).view.set]{q} X
/-- The rest of it. -/
abbrev xRest (c : Fin 8) (q : PosShare TreeShare) (X : Vec F S3211264 .f32) : sProp 𝕄 :=
  xLoc d ↦[Finset.univ \ (cMem L c).view.set]{q} X

theorem x_split (c : Fin 8) (q : PosShare TreeShare) (X : Vec F S3211264 .f32) :
    (xLoc d ↦{q} X : sProp 𝕄) ⊢ iprop(xPiece d L c q X ∗ xRest d L c q X) :=
  (pointsTo_split_subset (ℓ := xLoc d) (q := q) (f := X) (S := Finset.univ) (Finset.subset_univ (cMem L c).view.set)).1

theorem x_join (c : Fin 8) (q : PosShare TreeShare) (X : Vec F S3211264 .f32) :
    iprop(xPiece d L c q X ∗ xRest d L c q X) ⊢ (xLoc d ↦{q} X : sProp 𝕄) :=
  (pointsTo_split_subset (ℓ := xLoc d) (q := q) (f := X) (S := Finset.univ) (Finset.subset_univ (cMem L c).view.set)).2

/-- The subcore's buffer `b` holds `g`. -/
abbrev holds {s : Shape} {e : EltTy} (b : Memref sig .scVector .vmem s e) (g : s.Idx → Elt F e) : sProp 𝕄 :=
  iprop(∃ f, ⌜b.view.read (Elt F) f = g⌝ ∗ b.view.loc (thr d L) ↦[b.view.set]{fullShare} f)

/-- Chunk `c` in flight into buffer `b` on cell `sm`. -/
abbrev flight (b : Memref sig .scVector .vmem S12544 .f32) (sm : DmaSem sig) (c : Fin 8) (q : PosShare TreeShare) (X : Vec F S3211264 .f32) : sProp 𝕄 :=
  Transfers.Flight EC (thr d L) (.dma sm) none b.view.dmaCredit
    iprop(holds (F := F) d L b (chunk X (wid L) c.val) ∗ xPiece d L c q X)

variable [FloatOps F]

/-- The issue of a chunk's copy: the buffer, a share of the chunk and the cell at zero go in, the flight comes out. -/
theorem wp_issue (b : Memref sig .scVector .vmem S12544 .f32) (sm : DmaSem sig) (c : Fin 8) (q : PosShare TreeShare)
    (X : Vec F S3211264 .f32) {src : Memref sig .scVector .hbm S12544 .f32} (hs : src = cMem L c)
    {hsrc : src.view.WordExact} {hdst : b.view.WordExact} {hsem : DmaTarget.Typed (nD := nD) (p := (thr d L).2) .hbm (.dma sm) (.here b)}
    {β : Type} {k : PUnit → Prog (TpuEff nD τ sig (Elt F) Λ₀ (thr d L).2) β} {Q : β → sProp 𝕄} :
    iprop(xPiece d L c q X ∗ (∃ f, b.view.loc (thr d L) ↦[b.view.set]{fullShare} f) ∗ semVal (thr d L, SemLoc.dma sm) 0)
      ⊢ iprop((flight d L b sm c q X -∗ wp frame (wpE (defs₀ (F := F)) 𝒱₀ (thr d L) none) Set.univ (k ⟨⟩) Q)
        -∗ wp frame (wpE (defs₀ (F := F)) 𝒱₀ (thr d L) none) Set.univ
            (.op (.enqueueDma src (.here b) (.dma sm) hsrc hdst hsem) k) Q) := by
  subst hs
  iintro ⟨Hx, ⟨%f, Hb⟩, Hz⟩ Hk
  iapply (Transfers.wp_dmaLocal EC 𝒱₀ (thr d L) none (none : HIx 1) b.view.dmaCredit rfl
    (View.dmaCredit_pos _ (by decide)) (Finset.Subset.refl _)) $$ [Hx Hb Hz]
  · isplitl [Hx]; · iexact Hx
    isplitl [Hb]; · iexact Hb
    iexact Hz
  iintro Hf
  iapply Hk
  iapply (Transfers.Flight_mono EC (thr d L) (D' := iprop(holds (F := F) d L b (chunk X (wid L) c.val) ∗ xPiece d L c q X)) ?_) $$ Hf
  iintro ⟨Hb, Hx⟩
  isplitl [Hb]
  · iexists _; isplitr
    swap; · iexact Hb
    ipureintro
    rw [View.read_write_univ]
    exact read_cMem L c X
  iexact Hx

/-- The wait for a chunk: the flight lands. -/
theorem wp_land (b : Memref sig .scVector .vmem S12544 .f32) (sm : DmaSem sig) (c : Fin 8) (q : PosShare TreeShare)
    (X : Vec F S3211264 .f32) {srcw : Memref sig .scVector .hbm S12544 .f32}
    {hsrc : srcw.view.WordExact} {hdst : b.view.WordExact} {O : CellTallies nD τ sig (HIx 1)} {W W₀ : Waits sig (HIx 1)}
    (hW : ∀ p ∈ W, p ∈ W₀ ∨ p.2 = none)
    {β : Type} {k : PUnit → Prog (TpuEff nD τ sig (Elt F) Λ₀ (thr d L).2) β} {Q : β → sProp 𝕄} :
    iprop(Transfers.MayWaits (thr d L) (none : HIx 1) O ∗ flight d L b sm c q X ∗ owes (thr d L) O W)
      ⊢ iprop((iprop(holds (F := F) d L b (chunk X (wid L) c.val) ∗ xPiece d L c q X ∗ semVal (thr d L, SemLoc.dma sm) 0
            ∗ ∃ W', ⌜∀ p ∈ W', p ∈ W₀ ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ (.op (.waitDma2 sm srcw b hsrc hdst) k) Q) := by
  iintro ⟨Hmw, Hf, HO⟩ Hk
  iapply (Transfers.wp_waitLocalO EC 𝒱₀ (thr d L) none (none : HIx 1) (N := b.view.dmaCredit) rfl) $$ [Hmw Hf HO]
  · isplitl [Hf]; · iexact Hf
    isplitl [HO]; · iexact HO
    iapply (Transfers.MayWaits.elim (SemLoc.dma sm)); iexact Hmw
  iintro ⟨⟨Hb, Hx⟩, Hz, HO⟩
  iapply Hk
  isplitl [Hb]; · iexact Hb
  isplitl [Hx]; · iexact Hx
  isplitl [Hz]; · iexact Hz
  iexists _; isplitr
  swap; · iexact HO
  ipureintro; intro p hp
  rcases Finset.mem_insert.mp hp with hp | hp
  · exact .inr (hp ▸ rfl)
  · exact hW p hp

end Copies

end Cert.Proof.Quant
-- ==== Proof.TileLoop.lean ====
/-
  The loop that folds a buffer into the running sums: its printed form is the same text for each of the four places it
  stands at, so it is run once, over the buffer.
-/
module

public import proofs.«01_k».proof.Proof.TileOps

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Vector `t` of a chunk, as the loop's load reads it. -/
theorem load_lanes (b : Memref sig .scVector .vmem S12544 .f32) (f : b.view.ty.Contents (Elt F)) (t : Fin k0_t2_loop.trips) :
    (fun j => b.view.read (Elt F) f ((Rect.unit (s := S12544) (k0_off4 t) S16.size (k0_off4_inb t)).emb j)) = lanes (b.view.read (Elt F) f) t.val := by
  funext j
  unfold lanes
  refine congrArg _ (funext fun a => Fin.ext ?_)
  match a with
  | 0 =>
    have ht : t.val < 784 := t.isLt
    have hj : (j 0).val < 16 := (j 0).isLt
    have e : k0_off4 t 0 = 16 * t.val := congrFun (k0_off4_eq t) 0
    show (k0_off4 t) 0 + 1 * (j 0).val = (16 * t.val + (j 0).val) % 12544
    refine (congrArg (· + 1 * (j 0).val) e).trans ?_
    rw [Nat.mod_eq_of_lt (by omega)]
    show 16 * t.val + 1 * (j 0).val = _
    omega

/-- The loop's invariant: the buffer unchanged, the running sums the fold of the vectors so far. -/
def foldInv (A : Vec F S16 .f32) (b : Memref sig .scVector .vmem S12544 .f32) (g : Vec F S12544 .f32) (a₀ : Acc F) (t : ℕ) (a : Acc F) : sProp 𝕄 :=
  iprop(⌜a = accFold A g a₀ t⌝ ∗ holds (F := F) d L b g)

set_option maxHeartbeats 2000000 in
/-- The loop over a buffer that holds `g`: it ends with the running sums after the chunk. -/
theorem wp_fold (A : Vec F S16 .f32) (b : Memref sig .scVector .vmem S12544 .f32) (g : Vec F S12544 .f32) (a₀ : Acc F)
    (arg2 : Memref sig .scVector .hbm S3211264 .f32) (harg2 : arg2.IsWhole) (arg3 : Memref sig .scVector .hbm S16 .f32) (harg3 : arg3.IsWhole)
    (arg4 : Memref sig .scVector .hbm S32x208 .f32) (harg4 : arg4.IsWhole) (hb : b.IsWhole)
    (arg6 : Memref sig .scVector .vmem S12544 .f32) (harg6 : arg6.IsWhole) (arg7 : Memref sig .scVector .vmem S16 .f32) (harg7 : arg7.IsWhole)
    (arg8 : Memref sig .scVector .vmem S208 .f32) (harg8 : arg8.IsWhole) (arg9 arg10 r0 r1 : DmaSems sig S_)
    {β : Type} {k : Acc F → Prog (TpuEff nD τ sig (Elt F) Λ₀ (thr d L).2) β} {Q : β → sProp 𝕄} :
    iprop(holds (F := F) d L b g ∗ (holds (F := F) d L b g
        -∗ wp frame (wpE (defs₀ (F := F)) 𝒱₀ (thr d L) none) Set.univ (k (accChunk A g a₀)) Q))
      ⊢ wp frame (wpE (defs₀ (F := F)) 𝒱₀ (thr d L) none) Set.univ
          (Scf.Loop.for k0_t2_loop k0_t2_ok a₀
            (k0_t2_body L arg2 harg2 arg3 harg3 arg4 harg4 b hb arg6 harg6 arg7 harg7 arg8 harg8 arg9 arg10 r0 r1 A) >>= k) Q := by
  iintro ⟨Hb, Hk⟩
  sl_for (foldInv (F := F) d L A b g a₀) $$ [Hb]
  case region =>
    intro t a
    unfold foldInv
    iintro ⟨%ha, %f, %hf, Hb⟩
    obtain ⟨a0, a1, a2, a3, a4, a5, a6, a7, a8, a9, a10, a11, a12⟩ := a
    sl_respell [k0_t2_body]
    sl_exec
    sl_step
    isplitr
    · ipureintro
      rw [accFold, ← ha, ← hf, ← load_lanes]
      rfl
    iexists f; isplitr
    · ipureintro; exact hf
    iexact Hb
  · unfold foldInv
    isplitr
    · ipureintro; rfl
    iexact Hb
  iintro %a HI
  unfold foldInv
  icases HI with ⟨%ha, Hb⟩
  have ha' : a = accChunk A g a₀ := ha
  subst ha'
  iapply Hk
  iexact Hb

end Cert.Proof.Quant
-- ==== Proof.TilePart.lean ====
/-
  The main part of a vector subcore's run: the fetch of the step, the eight chunks through two buffers — each copy
  issued while the other buffer is folded — and the thirteen running sums at the end.
-/
module

public import proofs.«01_k».proof.Proof.TileLoop

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v1_scv : Memref Cert.KernelIdeal.sig Kind.scVector Space.hbm Cert.KernelIdeal.S3211264 EltTy.f32)
local notation "aV" => (Memref.whole Cert.KernelIdeal.main_v2_scv : Memref Cert.KernelIdeal.sig Kind.scVector Space.hbm Cert.KernelIdeal.S16 EltTy.f32)
local notation "oV" => (Memref.whole Cert.KernelIdeal.main_v3_scv : Memref Cert.KernelIdeal.sig Kind.scVector Space.hbm Cert.KernelIdeal.S32x208 EltTy.f32)
local notation "b0" => (Memref.whole Cert.KernelIdeal.cc0_scratch0 : Memref Cert.KernelIdeal.sig Kind.scVector Space.vmem Cert.KernelIdeal.S12544 EltTy.f32)
local notation "b1" => (Memref.whole Cert.KernelIdeal.cc0_scratch1 : Memref Cert.KernelIdeal.sig Kind.scVector Space.vmem Cert.KernelIdeal.S12544 EltTy.f32)
local notation "pV" => (Memref.whole Cert.KernelIdeal.cc0_scratch2 : Memref Cert.KernelIdeal.sig Kind.scVector Space.vmem Cert.KernelIdeal.S16 EltTy.f32)
local notation "gV" => (Memref.whole Cert.KernelIdeal.cc0_scratch3 : Memref Cert.KernelIdeal.sig Kind.scVector Space.vmem Cert.KernelIdeal.S208 EltTy.f32)

section Same

variable (i : grid0.Coords) (arg2 : Memref sig .scVector .hbm S3211264 .f32) (harg2 : arg2.IsWhole) (arg3 : Memref sig .scVector .hbm S16 .f32) (harg3 : arg3.IsWhole) (arg4 : Memref sig .scVector .hbm S32x208 .f32) (harg4 : arg4.IsWhole) (arg5 : Memref sig .scVector .vmem S12544 .f32) (harg5 : arg5.IsWhole) (arg6 : Memref sig .scVector .vmem S12544 .f32) (harg6 : arg6.IsWhole) (arg7 : Memref sig .scVector .vmem S16 .f32) (harg7 : arg7.IsWhole) (arg8 : Memref sig .scVector .vmem S208 .f32) (harg8 : arg8.IsWhole) (arg9 arg10 r0 r1 : DmaSems sig S_) (v3 : Vec F S16 .f32)

/-- The four loop bodies are one text, over one buffer or the other. -/
theorem t3_same : k0_t3_body i arg2 harg2 arg3 harg3 arg4 harg4 arg5 harg5 arg6 harg6 arg7 harg7 arg8 harg8 arg9 arg10 r0 r1 v3
    = k0_t2_body i arg2 harg2 arg3 harg3 arg4 harg4 arg6 harg6 arg5 harg5 arg7 harg7 arg8 harg8 arg9 arg10 r0 r1 v3 := rfl
theorem t4_same : k0_t4_body i arg2 harg2 arg3 harg3 arg4 harg4 arg5 harg5 arg6 harg6 arg7 harg7 arg8 harg8 arg9 arg10 r0 r1 v3
    = k0_t2_body i arg2 harg2 arg3 harg3 arg4 harg4 arg5 harg5 arg6 harg6 arg7 harg7 arg8 harg8 arg9 arg10 r0 r1 v3 := rfl
theorem t5_same : k0_t5_body i arg2 harg2 arg3 harg3 arg4 harg4 arg5 harg5 arg6 harg6 arg7 harg7 arg8 harg8 arg9 arg10 r0 r1 v3
    = k0_t2_body i arg2 harg2 arg3 harg3 arg4 harg4 arg6 harg6 arg5 harg5 arg7 harg7 arg8 harg8 arg9 arg10 r0 r1 v3 := rfl

end Same

variable (d : Dev nD) (L : grid0.Coords)

/-- Chunk number `n`, below eight. -/
abbrev cf (n : ℕ) : Fin 8 := ⟨n % 8, Nat.mod_lt _ (by decide)⟩

theorem chunk_cf (X : Vec F S3211264 .f32) (n : ℕ) (h : n < 8) : chunk X (wid L) (cf n).val = chunk X (wid L) n := by
  rw [show (cf n).val = n from Nat.mod_eq_of_lt h]

theorem off1_first : k0_off1 L 0#32 = ![100352 * wid L + 12544 * (cf 0).val] := by
  refine (closedOff_k0_off1_0 L).eq.trans ?_
  funext a; match a with
  | 0 => show 200704 * (L 1).val + 100352 * (L 0).val + 87808 * 0 = 100352 * (2 * (L 1).val + (L 0).val) + 12544 * 0; omega
theorem off1_last : k0_off1 L 87808#32 = ![100352 * wid L + 12544 * (cf 7).val] := by
  have e : ∀ a b : ℕ, 200704 * a + 100352 * b + 87808 * 1 = 100352 * (2 * a + b) + 12544 * 7 := fun a b => by ring
  exact (closedOff_k0_off1_1 L).eq.trans (congrArg (fun n : ℕ => (![n] : Fin 1 → ℕ)) (e (L 1).val (L 0).val))
theorem off2_odd (t : Fin k0_t1_loop.trips) : k0_off2 L t 1#32 = ![100352 * wid L + 12544 * (cf (2 * t.val + 1)).val] := by
  rw [show k0_off2 L t 1#32 = _ from k0_off2_eq L t 0]
  have ht : t.val < 3 := t.isLt
  funext a; match a with
  | 0 =>
    show 200704 * (L 1).val + 100352 * (L 0).val + 25088 * t.val + 12544 * 0 + 12544
      = 100352 * (2 * (L 1).val + (L 0).val) + 12544 * ((2 * t.val + 1) % 8)
    rw [Nat.mod_eq_of_lt (by omega)]; omega
theorem off2_even (t : Fin k0_t1_loop.trips) : k0_off2 L t 2#32 = ![100352 * wid L + 12544 * (cf (2 * (t.val + 1))).val] := by
  rw [show k0_off2 L t 2#32 = _ from k0_off2_eq L t 1]
  have ht : t.val < 3 := t.isLt
  funext a; match a with
  | 0 =>
    show 200704 * (L 1).val + 100352 * (L 0).val + 25088 * t.val + 12544 * 1 + 12544
      = 100352 * (2 * (L 1).val + (L 0).val) + 12544 * ((2 * (t.val + 1)) % 8)
    rw [Nat.mod_eq_of_lt (by omega)]; omega

/-- What the subcore owes, its recorded waits only those of its own local copies beyond `W`. -/
abbrev owing (O : CellTallies nD τ sig (HIx 1)) (W : Waits sig (HIx 1)) : sProp 𝕄 :=
  iprop(∃ W', ⌜∀ p ∈ W', p ∈ W ∨ p.2 = none⌝ ∗ owes (thr d L) O W')

/-- Buffer `b` at some contents. -/
abbrev some_ (b : Memref sig .scVector .vmem S12544 .f32) : sProp 𝕄 :=
  iprop(∃ f, b.view.loc (thr d L) ↦[b.view.set]{fullShare} f)

theorem some_of_holds (b : Memref sig .scVector .vmem S12544 .f32) (g : Vec F S12544 .f32) :
    (holds (F := F) d L b g) ⊢ some_ (F := F) d L b := by
  iintro ⟨%f, -, H⟩; iexists f; iexact H

/-- Before pair `t`: chunk `2 t` in flight into the first buffer, the second free, the running sums those of the chunks
    before it. -/
def pairInv (A : Vec F S16 .f32) (X : Vec F S3211264 .f32) (q q' : PosShare TreeShare) (O : CellTallies nD τ sig (HIx 1)) (W : Waits sig (HIx 1))
    (t : ℕ) (a : Acc F) : sProp 𝕄 :=
  iprop(⌜a = accTile A X (wid L) (2 * t)⌝ ∗ Transfers.MayWaits (thr d L) (none : HIx 1) O
    ∗ flight (F := F) d L b0 cc0_scratch4.sem (cf (2 * t)) q X ∗ xRest (F := F) d L (cf (2 * t)) q X ∗ (xLoc d ↦{q'} X)
    ∗ some_ (F := F) d L b1 ∗ semVal (thr d L, SemLoc.dma cc0_scratch5.sem) 0 ∗ owing (F := F) d L O W)

set_option maxHeartbeats 4000000 in
/-- One pair of chunks. -/
theorem pair_trip (A : Vec F S16 .f32) (X : Vec F S3211264 .f32) (q q' : PosShare TreeShare) (O : CellTallies nD τ sig (HIx 1)) (W : Waits sig (HIx 1))
    (t : Fin k0_t1_loop.trips) (a : Acc F) :
    pairInv (F := F) d L A X q q' O W t.val a
      ⊢ wp frame (wpE (defs₀ (F := F)) 𝒱₀ (thr d L) none) Set.univ
          (k0_t1_body L xV (Memref.isWhole_whole _) aV (Memref.isWhole_whole _) oV (Memref.isWhole_whole _)
            b0 (Memref.isWhole_whole _) b1 (Memref.isWhole_whole _) pV (Memref.isWhole_whole _) gV (Memref.isWhole_whole _)
            cc0_scratch4 cc0_scratch5 cc0_scoped0 cc0_scoped1 A t a)
          (pairInv (F := F) d L A X q q' O W (t.val + 1)) := by
  have ht : t.val < 3 := t.isLt
  obtain ⟨a0, a1, a2, a3, a4, a5, a6, a7, a8, a9, a10, a11, a12⟩ := a
  conv_lhs => unfold pairInv
  unfold k0_t1_body
  rw [t3_same]
  simp only [Prog.lift, Prog.bind_op, Prog.bind_ret, Prog.pure_eq_ret, Prog.bind_assoc]
  iintro ⟨%ha, #Hmw, Hf, Hr, Hx, Hb1, Hz1, %W1, %hW1, HO⟩
  -- the odd chunk's issue
  ihave Hx' := (x_split d L (cf (2 * t.val + 1)) q' X) $$ Hx
  icases Hx' with ⟨Hxp, Hxr⟩
  iapply (wp_issue d L b1 cc0_scratch5.sem (cf (2 * t.val + 1)) q' X (slice_eq L _ _ _ (off2_odd L t))) $$ [Hxp Hb1 Hz1]
  · isplitl [Hxp]; · iexact Hxp
    isplitl [Hb1]; · iexact Hb1
    iexact Hz1
  iintro Hf1
  -- the even chunk lands and is folded
  iapply (wp_land d L b0 cc0_scratch4.sem (cf (2 * t.val)) q X hW1) $$ [Hf HO]
  · isplitr; · iexact Hmw
    isplitl [Hf]; · iexact Hf
    iexact HO
  iintro ⟨Hb0, Hxp, Hz0, %W2, %hW2, HO⟩
  ihave Hx0 := (x_join d L (cf (2 * t.val)) q X) $$ [Hxp Hr]
  · isplitl [Hxp] <;> iassumption
  iapply (wp_fold d L A b0 (chunk X (wid L) (cf (2 * t.val)).val))
  isplitl [Hb0]; · iexact Hb0
  iintro Hb0
  -- the next even chunk's issue
  ihave Hx' := (x_split d L (cf (2 * (t.val + 1))) q X) $$ Hx0
  icases Hx' with ⟨Hxp, Hr⟩
  ihave Hb0' := (some_of_holds d L b0 _) $$ Hb0
  iapply (wp_issue d L b0 cc0_scratch4.sem (cf (2 * (t.val + 1))) q X (slice_eq L _ _ _ (off2_even L t))) $$ [Hxp Hb0' Hz0]
  · isplitl [Hxp]; · iexact Hxp
    isplitl [Hb0']; · iexact Hb0'
    iexact Hz0
  iintro Hf
  iapply (wp_land d L b1 cc0_scratch5.sem (cf (2 * t.val + 1)) q' X hW2) $$ [Hf1 HO]
  · isplitr; · iexact Hmw
    isplitl [Hf1]; · iexact Hf1
    iexact HO
  iintro ⟨Hb1, Hxp, Hz1, %W3, %hW3, HO⟩
  ihave Hx := (x_join d L (cf (2 * t.val + 1)) q' X) $$ [Hxp Hxr]
  · isplitl [Hxp] <;> iassumption
  iapply (wp_fold d L A b1 (chunk X (wid L) (cf (2 * t.val + 1)).val))
  isplitl [Hb1]; · iexact Hb1
  iintro Hb1
  rw [wp_ret]; imodintro
  unfold pairInv
  isplitr
  · ipureintro
    rw [chunk_cf L X _ (by omega), chunk_cf L X _ (by omega), ha, show 2 * (t.val + 1) = 2 * t.val + 1 + 1 by omega, accTile, accTile]
  isplitr; · iexact Hmw
  isplitl [Hf]; · iexact Hf
  isplitl [Hr]; · iexact Hr
  isplitl [Hx]; · iexact Hx
  isplitl [Hb1]; · iapply (some_of_holds d L b1 _); iexact Hb1
  isplitl [Hz1]; · iexact Hz1
  iexists W3; isplitr
  · ipureintro; exact hW3
  iexact HO

end Cert.Proof.Quant
-- ==== Proof.TileStage.lean ====
/-
  The end of a vector subcore's run: the thirteen sums staged in a row, one store of sixteen lanes each; and a copy that
  is issued and waited for at once (the step's fetch, the row's write-out).
-/
module

public import proofs.«01_k».proof.Proof.TilePart

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "gV" => (Memref.whole Cert.KernelIdeal.cc0_scratch3 : Memref Cert.KernelIdeal.sig Kind.scVector Space.vmem Cert.KernelIdeal.S208 EltTy.f32)

variable (d : Dev nD) (L : grid0.Coords)

/-- A copy issued and waited for at once. -/
theorem wp_move {s : Shape} {e : EltTy} {sp sp' spw : Space} {sw : Shape} {ew : EltTy} {src : Memref sig .scVector sp s e} {dst : Memref sig .scVector sp' s e}
    {srcw : Memref sig .scVector spw sw ew} {sm : DmaSem sig} (hpos : 0 < s.numel) (q : PosShare TreeShare)
    (fs : Buf (Elt F) (src.view.loc (thr d L))) (fd : Buf (Elt F) (dst.view.loc (thr d L)))
    {h1 : src.view.WordExact} {h2 : dst.view.WordExact} {h3 : DmaTarget.Typed (nD := nD) (p := (thr d L).2) sp (.dma sm) (.here dst)}
    {h4 : srcw.view.WordExact} {h5 : dst.view.WordExact} {O : CellTallies nD τ sig (HIx 1)} {W W₀ : Waits sig (HIx 1)}
    (hW : ∀ p ∈ W, p ∈ W₀ ∨ p.2 = none)
    {β : Type} {k : PUnit → Prog (TpuEff nD τ sig (Elt F) Λ₀ (thr d L).2) β} {Q : β → sProp 𝕄} :
    iprop(Transfers.MayWaits (thr d L) (none : HIx 1) O ∗ (src.view.loc (thr d L) ↦[src.view.set]{q} fs)
        ∗ (dst.view.loc (thr d L) ↦[dst.view.set]{fullShare} fd) ∗ semVal (thr d L, SemLoc.dma sm) 0 ∗ owes (thr d L) O W)
      ⊢ iprop((iprop((src.view.loc (thr d L) ↦[src.view.set]{q} fs)
            ∗ (dst.view.loc (thr d L) ↦[dst.view.set]{fullShare} dst.view.write (Elt F) fd (src.view.read (Elt F) fs) Finset.univ)
            ∗ semVal (thr d L, SemLoc.dma sm) 0 ∗ ∃ W', ⌜∀ p ∈ W', p ∈ W₀ ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sm) h1 h2 h3) fun _ => .op (.waitDma2 sm srcw dst h4 h5) k) Q) := by
  iintro ⟨Hmw, Hs, Hd, Hz, HO⟩ Hk
  iapply (Transfers.wp_dmaLocal EC 𝒱₀ (thr d L) none (none : HIx 1) dst.view.dmaCredit rfl
    (View.dmaCredit_pos _ hpos) (Finset.Subset.refl _)) $$ [Hs Hd Hz]
  · isplitl [Hs]; · iexact Hs
    isplitl [Hd]; · iexact Hd
    iexact Hz
  iintro Hf
  iapply (Transfers.wp_waitLocalO EC 𝒱₀ (thr d L) none (none : HIx 1) (N := dst.view.dmaCredit) rfl) $$ [Hmw Hf HO]
  · isplitl [Hf]; · iexact Hf
    isplitl [HO]; · iexact HO
    iapply (Transfers.MayWaits.elim (SemLoc.dma sm)); iexact Hmw
  iintro ⟨⟨Hd, Hs⟩, Hz, HO⟩
  iapply Hk
  isplitl [Hs]; · iexact Hs
  isplitl [Hd]; · iexact Hd
  isplitl [Hz]; · iexact Hz
  iexists _; isplitr
  swap; · iexact HO
  ipureintro; intro p hp
  rcases Finset.mem_insert.mp hp with hp | hp
  · exact .inr (hp ▸ rfl)
  · exact hW p hp

/-- The staging row holds the first `n` sums. -/
def stagedTo (a : Acc F) (n : ℕ) : sProp 𝕄 :=
  iprop(∃ f : Vec F S208 .f32, ⌜∀ j : S208.Idx, (j 0).val < 16 * n → f j = staged a j⌝ ∗ (gV).view.loc (thr d L) ↦[(gV).view.set]{fullShare} f)

theorem write_staged (a : Acc F) (n : ℕ) (hn : n < 13) (inb : ∀ x, (![16 * n] : Fin 1 → ℕ) x + S16.size x ≤ S208.size x) (f : Vec F S208 .f32)
    (hf : ∀ j : S208.Idx, (j 0).val < 16 * n → f j = staged a j) :
    ∀ j : S208.Idx, (j 0).val < 16 * (n + 1) →
      (((gV).view.slice (Rect.unit (s := S208) ![16 * n] S16.size inb)).write (Elt F) f (a.get n) Finset.univ) j = staged a j := by
  intro j hj
  by_cases h : (j 0).val < 16 * n
  · rw [View.write_of_not_mem]
    · exact hf j h
    · intro hm
      simp only [View.setOn, Finset.mem_map] at hm
      obtain ⟨x, -, hx⟩ := hm
      have : (j 0).val = 16 * n + 1 * (x 0).val := by rw [← hx]; rfl
      omega
  · let x : S16.Idx := fun | 0 => ⟨(j 0).val - 16 * n, show (j 0).val - 16 * n < 16 by omega⟩
    have hx : ((gV).view.slice (Rect.unit (s := S208) ![16 * n] S16.size inb)).emb x = j := by
      funext b; refine Fin.ext ?_
      match b with
      | 0 => show 16 * n + 1 * ((j 0).val - 16 * n) = (j 0).val; omega
    have h0 := View.write_emb_of_mem (Val := Elt F) (v := (gV).view.slice (Rect.unit (s := S208) ![16 * n] S16.size inb)) f (a.get n) (M := Finset.univ) (x := x) (Finset.mem_univ _)
    rw [hx] at h0
    refine h0.trans ((cast_eq _ _).trans ?_)
    unfold staged
    have e1 : (j 0).val / 16 = n := by omega
    rw [e1]
    refine congrArg _ (funext fun b => Fin.ext ?_)
    match b with
    | 0 => show (j 0).val - 16 * n = (j 0).val % 16; omega

set_option maxHeartbeats 2000000 in
/-- Sum `n` staged: the row read where it goes, and the sixteen lanes stored. -/
theorem wp_put (a : Acc F) (n : ℕ) (hn : n < 13) {off : Fin 1 → ℕ} (he : off = ![16 * n])
    {inb : ∀ x, off x + S16.size x ≤ S208.size x} {h1 : _} {pay : FVec F S16 .f32} (hp : pay = a.get n) {h2 : _} {h3 : _}
    {β : Type} {k : PUnit → Prog (TpuEff nD τ sig (Elt F) Λ₀ (thr d L).2) β} {Q : β → sProp 𝕄} :
    stagedTo (F := F) d L a n
      ⊢ iprop((stagedTo (F := F) d L a (n + 1) -∗ wp frame (wpE (defs₀ (F := F)) 𝒱₀ (thr d L) none) Set.univ (k ⟨⟩) Q)
        -∗ wp frame (wpE (defs₀ (F := F)) 𝒱₀ (thr d L) none) Set.univ
            (.op (.load gV (Rect.unit (s := S208) off S16.size inb).toLoadRect h1) fun _ =>
              .op (.store gV (Rect.unit (s := S208) off S16.size inb) pay Finset.univ h2 h3) k) Q) := by
  subst he hp
  unfold stagedTo
  iintro ⟨%f, %hf, Hg⟩ Hk
  sl_exec
  iapply Hk
  iexists _; isplitr
  swap; · iexact Hg
  ipureintro
  exact write_staged a n hn inb f hf

end Cert.Proof.Quant
-- ==== Proof.Tile.lean ====
/-
  A vector subcore's whole run, once, at a symbolic pair of SparseCore and subcore: from its shares of the flat array and
  of the step and its row of the result, to the same shares and the row at the staged sums of its stretch.
-/
module

public import proofs.«01_k».proof.Proof.TileStage

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S3211264 EltTy.f32)
local notation "aV" => (Memref.whole Cert.KernelIdeal.main_v2_scv : Memref Cert.KernelIdeal.sig Kind.scVector Space.hbm Cert.KernelIdeal.S16 EltTy.f32)
local notation "oV" => (Memref.whole Cert.KernelIdeal.main_v3_scv : Memref Cert.KernelIdeal.sig Kind.scVector Space.hbm Cert.KernelIdeal.S32x208 EltTy.f32)
local notation "b0" => (Memref.whole Cert.KernelIdeal.cc0_scratch0 : Memref Cert.KernelIdeal.sig Kind.scVector Space.vmem Cert.KernelIdeal.S12544 EltTy.f32)
local notation "b1" => (Memref.whole Cert.KernelIdeal.cc0_scratch1 : Memref Cert.KernelIdeal.sig Kind.scVector Space.vmem Cert.KernelIdeal.S12544 EltTy.f32)
local notation "pV" => (Memref.whole Cert.KernelIdeal.cc0_scratch2 : Memref Cert.KernelIdeal.sig Kind.scVector Space.vmem Cert.KernelIdeal.S16 EltTy.f32)
local notation "gV" => (Memref.whole Cert.KernelIdeal.cc0_scratch3 : Memref Cert.KernelIdeal.sig Kind.scVector Space.vmem Cert.KernelIdeal.S208 EltTy.f32)

/-! ## The rows -/

theorem odiv : 32 ∣ S32x208.size 0 := ⟨1, rfl⟩
/-- Row `w` of the result. -/
abbrev orow (w : Fin 32) : Rect S32x208 := Rect.part (s := S32x208) (a₀ := 0) odiv w
abbrev rowSet (w : Fin 32) : Finset S32x208.Idx := ((oV).view.slice (orow w)).set

variable (d : Dev nD) (L : grid0.Coords)

/-- The subcore's number. -/
abbrev wF : Fin 32 := ⟨wid L, wid_lt L⟩

/-- The subcore's row as the program addresses it. -/
abbrev oRow : Memref sig .scVector .hbm S208 .f32 :=
  ((oV).slice (Rect.unit (s := S32x208) (k0_off9 L) S1x208.size (k0_off9_inb L)) (fun _ => rfl)).squeeze S208 squeezes_S1x208_S208

theorem orow_eq : Rect.unit (s := S32x208) (k0_off9 L) S1x208.size (k0_off9_inb L) = orow (wF L) := by
  unfold orow Rect.part Rect.block
  congr 1 <;> funext a
  · rw [k0_off9_eq]
    match a with
    | 0 => simp [Shape.partIx, Shape.partSize]
    | 1 => simp [Shape.partIx, Shape.partSize]
  · match a with
    | 0 => simp [Shape.partSize]
    | 1 => simp [Shape.partSize]

theorem set_oRow : (oRow L).view.set = rowSet (wF L) := by
  show (((oV).view.slice (Rect.unit (s := S32x208) (k0_off9 L) S1x208.size (k0_off9_inb L))).reshape S208 squeezes_S1x208_S208.numel_eq).set
    = ((oV).view.slice (orow (wF L))).set
  rw [View.set_reshape]
  exact orow_eq L ▸ rfl

/-- Element `j` of the row is element `(w, j)` of the result. -/
theorem emb_oRow (j : S208.Idx) : (oRow L).view.emb j = (fun | 0 => wF L | 1 => j 0 : S32x208.Idx) := by
  have e : Shape.reshapeEquiv squeezes_S1x208_S208.numel_eq j = (Fin.cons ⟨0, Nat.one_pos⟩ j : S1x208.Idx) :=
    Shape.reshapeEquiv_cons_one (n := 1) (d := ![208]) squeezes_S1x208_S208.numel_eq j
  have e9 := k0_off9_eq L
  show (Rect.unit (s := S32x208) (k0_off9 L) S1x208.size (k0_off9_inb L)).emb (Shape.reshapeEquiv squeezes_S1x208_S208.numel_eq j) = _
  rw [e]
  funext a; refine Fin.ext ?_
  match a with
  | 0 =>
    show k0_off9 L 0 + 1 * 0 = wid L
    exact congrFun e9 0
  | 1 =>
    show k0_off9 L 1 + 1 * (j 0).val = (j 0).val
    have h : k0_off9 L 1 = 0 := congrFun e9 1
    omega

/-- What the write-out leaves in the row: the result's row of sums. -/
theorem row_written [FloatOps F] (A : Vec F S16 .f32) (X : Vec F S3211264 .f32) (fo : Vec F S32x208 .f32) (g : Vec F S208 .f32)
    (hg : ∀ j : S208.Idx, (j 0).val < 16 * 13 → g j = staged (accTile A X (wid L) 8) j) :
    ∀ i ∈ (oRow L).view.set, ((oRow L).view.write (Elt F) fo g Finset.univ) i = rowsOut A X i := by
  intro i hi
  simp only [View.set, Finset.mem_map] at hi
  obtain ⟨j, -, rfl⟩ := hi
  refine (View.write_emb_of_mem (v := (oRow L).view) (Val := Elt F) fo g (M := Finset.univ) (Finset.mem_univ j)).trans ?_
  refine (cast_eq _ (g j)).trans ?_
  rw [hg j (j 0).isLt, emb_oRow]
  unfold rowsOut
  refine congrArg _ (funext fun a => ?_)
  match a with
  | 0 => rfl

/-! ## The subcore's own cells and buffers -/

/-- The subcore's cells. -/
abbrev cell (s : DmaSem sig) : GSem nD τ sig := (thr d L, .dma s)

theorem ownSems0_tile :
    (ownSems0 (thr d L) : sProp 𝕄)
      = iprop(semVal (cell d L cc0_scratch4.sem) 0 ∗ semVal (cell d L cc0_scratch5.sem) 0 ∗ semVal (cell d L cc0_scoped0.sem) 0 ∗ semVal (cell d L cc0_scoped1.sem) 0
          ∗ bigSep (((((ownCells (thr d L)).erase (cell d L cc0_scratch4.sem)).erase (cell d L cc0_scratch5.sem)).erase (cell d L cc0_scoped0.sem)).erase (cell d L cc0_scoped1.sem)) fun g => semVal g 0) := by
  unfold SparseCore.Cfg.ownSems0
  have m4 : cell d L cc0_scratch4.sem ∈ ownCells (thr d L) := mem_ownCells.mpr ⟨rfl, by show (SemLoc.dma cc0_scratch4.sem : SemLoc sig).isScoped .scVector = true; decide⟩
  have m5 : cell d L cc0_scratch5.sem ∈ ownCells (thr d L) := mem_ownCells.mpr ⟨rfl, by show (SemLoc.dma cc0_scratch5.sem : SemLoc sig).isScoped .scVector = true; decide⟩
  have m0 : cell d L cc0_scoped0.sem ∈ ownCells (thr d L) := mem_ownCells.mpr ⟨rfl, by show (SemLoc.dma cc0_scoped0.sem : SemLoc sig).isScoped .scVector = true; decide⟩
  have m1 : cell d L cc0_scoped1.sem ∈ ownCells (thr d L) := mem_ownCells.mpr ⟨rfl, by show (SemLoc.dma cc0_scoped1.sem : SemLoc sig).isScoped .scVector = true; decide⟩
  have ne : ∀ s s' : DmaSem sig, s ≠ s' → cell d L s ≠ cell d L s' := fun s s' h e => h (SemLoc.dma.inj (congrArg Prod.snd e))
  rw [SparseCore.bigSep_erase' m4,
    SparseCore.bigSep_erase' (Finset.mem_erase.mpr ⟨ne _ _ (by decide), m5⟩),
    SparseCore.bigSep_erase' (Finset.mem_erase.mpr ⟨ne _ _ (by decide), Finset.mem_erase.mpr ⟨ne _ _ (by decide), m0⟩⟩),
    SparseCore.bigSep_erase' (Finset.mem_erase.mpr ⟨ne _ _ (by decide), Finset.mem_erase.mpr ⟨ne _ _ (by decide), Finset.mem_erase.mpr ⟨ne _ _ (by decide), m1⟩⟩⟩)]

abbrev bufOf (b : Ref sig .scVector) : DevRef τ sig := (Proc.scVector (cV L) (jV L)).devRef b

theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (bufOf L cc0_scratch0)).erase (bufOf L cc0_scratch1)).erase (bufOf L cc0_scratch2)).erase (bufOf L cc0_scratch3))
              fun b => iprop(∃ f, ((d, b) : Loc nD τ sig) ↦{fullShare} f)) := by
  unfold SparseCore.Cfg.ownBufs
  have ne : ∀ s s' : Ref sig .scVector, s ≠ s' → bufOf L s ≠ bufOf L s' := fun s s' h e => h (Proc.devRef_injective _ e)
  refine (SparseCore.bigSep_erase' (SparseCore.Cfg.mem_ownRefs_of_owner (p := Proc.scVector (cV L) (jV L)) (b := bufOf L cc0_scratch0) rfl)).trans ?_
  rw [SparseCore.bigSep_erase' (Finset.mem_erase.mpr ⟨ne _ _ (by decide),
      SparseCore.Cfg.mem_ownRefs_of_owner (p := Proc.scVector (cV L) (jV L)) (b := bufOf L cc0_scratch1) rfl⟩),
    SparseCore.bigSep_erase' (Finset.mem_erase.mpr ⟨ne _ _ (by decide), Finset.mem_erase.mpr ⟨ne _ _ (by decide),
      SparseCore.Cfg.mem_ownRefs_of_owner (p := Proc.scVector (cV L) (jV L)) (b := bufOf L cc0_scratch2) rfl⟩⟩),
    SparseCore.bigSep_erase' (Finset.mem_erase.mpr ⟨ne _ _ (by decide), Finset.mem_erase.mpr ⟨ne _ _ (by decide), Finset.mem_erase.mpr ⟨ne _ _ (by decide),
      SparseCore.Cfg.mem_ownRefs_of_owner (p := Proc.scVector (cV L) (jV L)) (b := bufOf L cc0_scratch3) rfl⟩⟩⟩)]

/-! ## The run -/

/-- Subcore `w`'s read share. -/
abbrev qw (w : Fin 32) : PosShare TreeShare := Transfers.shareTok fullShare 32 w

/-- What a subcore takes: its read shares of the flat array and of the step, and its row of the result at some contents. -/
abbrev goP (A : Vec F S16 .f32) (X : Vec F S3211264 .f32) (w : Fin 32) : sProp 𝕄 :=
  iprop((xLoc d ↦{qw w} X) ∗ (aLoc d ↦{qw w} A) ∗ ∃ f, oLoc d ↦[rowSet w]{fullShare} f)
/-- What it gives back: the shares, and the row at its sums. -/
abbrev tdP [FloatOps F] (A : Vec F S16 .f32) (X : Vec F S3211264 .f32) (w : Fin 32) : sProp 𝕄 :=
  iprop((xLoc d ↦{qw w} X) ∗ (aLoc d ↦{qw w} A) ∗ oLoc d ↦[rowSet w]{fullShare} rowsOut A X)

variable [FloatOps F]

/-- A value returned by the main part, as running sums. -/
abbrev accOf (r : Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32), FVec F S16 .f32) : Acc F :=
  (r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2.1,
    r.2.2.2.2.2.2.2.2.2.2.1, r.2.2.2.2.2.2.2.2.2.2.2.1, r.2.2.2.2.2.2.2.2.2.2.2.2)

theorem cast16 (v : FVec F S16 .f32) (h : S16.ShapeCasts S16) : shapeCast S16 v h = v := funext fun j => congrArg v (Shape.reshapeEquiv_self _ j)

/-- Between the chunks' parts: the arrays' shares whole, the buffers at some contents, the cells at zero. -/
abbrev restP (A : Vec F S16 .f32) (X : Vec F S3211264 .f32) (q : PosShare TreeShare) (O : CellTallies nD τ sig (HIx 1)) (W : Waits sig (HIx 1)) : sProp 𝕄 :=
  iprop((xLoc d ↦{q} X) ∗ (aLoc d ↦{q} A) ∗ some_ (F := F) d L b0 ∗ some_ (F := F) d L b1 ∗ (∃ f, (pV).view.loc (thr d L) ↦[(pV).view.set]{fullShare} f)
    ∗ semVal (cell d L cc0_scratch4.sem) 0 ∗ semVal (cell d L cc0_scratch5.sem) 0 ∗ semVal (cell d L cc0_scoped0.sem) 0 ∗ owing (F := F) d L O W)

theorem read_step (f : Vec F S16 .f32) (h : ∀ x, (![0] : Fin 1 → ℕ) x + S16.size x ≤ S16.size x) :
    (fun j => (pV).view.read (Elt F) f ((Rect.unit (s := S16) ![0] S16.size h).emb j)) = f := by
  funext j
  refine congrArg f (funext fun a => Fin.ext ?_)
  match a with
  | 0 => show 0 + 1 * (j 0).val = (j 0).val; omega

set_option maxHeartbeats 8000000 in
/-- The main part: the eight chunks folded. -/
theorem wp_part1 (A : Vec F S16 .f32) (X : Vec F S3211264 .f32) (q : PosShare TreeShare) (O : CellTallies nD τ sig (HIx 1)) (W : Waits sig (HIx 1)) :
    iprop(Transfers.MayWaits (thr d L) (none : HIx 1) O ∗ restP (F := F) d L A X q O W)
      ⊢ wp frame (wpE (defs₀ (F := F)) 𝒱₀ (thr d L) none) Set.univ
          (k0_part1 L xV (Memref.isWhole_whole _) aV (Memref.isWhole_whole _) oV (Memref.isWhole_whole _)
            b0 (Memref.isWhole_whole _) b1 (Memref.isWhole_whole _) pV (Memref.isWhole_whole _) gV (Memref.isWhole_whole _)
            cc0_scratch4 cc0_scratch5 cc0_scoped0 cc0_scoped1)
          fun r => iprop(⌜accOf r = accTile A X (wid L) 8⌝ ∗ restP (F := F) d L A X q O W) := by
  simp only [k0_part1_eq_skeleton]; unfold k0_part1_skel
  simp only [t4_same, t5_same]
  simp only [Prog.lift, Prog.bind_op, Prog.bind_ret, Prog.pure_eq_ret, Prog.bind_assoc]
  iintro ⟨#Hmw, Hx, Ha, Hb0, Hb1, ⟨%fp, Hp⟩, Hz0, Hz1, Hz2, %W0, %hW0, HO⟩
  -- the step
  ihave Ha' := (Entails.of_eq (show (aLoc d ↦{q} A : sProp 𝕄) = ((aV).view.loc (thr d L) ↦[(aV).view.set]{q} A) by
    rw [show (aV).view.set = Finset.univ from View.set_whole _])) $$ Ha
  iapply (wp_move d L (src := aV) (dst := pV) (by decide) q A fp hW0) $$ [Ha' Hp Hz2 HO]
  · isplitr; · iexact Hmw
    isplitl [Ha']; · iexact Ha'
    isplitl [Hp]; · iexact Hp
    isplitl [Hz2] <;> iassumption
  iintro ⟨Ha', Hp, Hz2, %W1, %hW1, HO⟩
  ihave Ha := (Entails.of_eq (show ((aV).view.loc (thr d L) ↦[(aV).view.set]{q} A : sProp 𝕄) = (aLoc d ↦{q} A) by
    rw [show (aV).view.set = Finset.univ from View.set_whole _])) $$ Ha'
  rw [View.write_whole_univ]
  have hA : View.readAt (Elt F) (pV).view (Rect.unit (s := S16) ![0] S16.size inb_S16_S16_0).toLoadRect (View.read (Elt F) (aV).view A) = A :=
    read_step (F := F) A inb_S16_S16_0
  sl_step
  simp only [hA]
  -- the first chunk's issue
  ihave Hx2 := (pointsTo_share (PosShare.mem_left_op_right q)).1 $$ Hx
  icases Hx2 with ⟨Hxl, Hxr⟩
  ihave Hx' := (x_split d L (cf 0) q.left X) $$ Hxl
  icases Hx' with ⟨Hxp, Hr⟩
  iapply (wp_issue d L b0 cc0_scratch4.sem (cf 0) q.left X (slice_eq L _ _ _ (off1_first L))) $$ [Hxp Hb0 Hz0]
  · isplitl [Hxp]; · iexact Hxp
    isplitl [Hb0]; · iexact Hb0
    iexact Hz0
  iintro Hf
  sl_for (pairInv (F := F) d L A X q.left q.right O W) $$ [Hf Hr Hxr Hb1 Hz1 HO]
  case region =>
    intro t a
    exact pair_trip d L A X q.left q.right O W t a
  · unfold pairInv
    isplitr; · ipureintro; rfl
    isplitr; · iexact Hmw
    isplitl [Hf]; · iexact Hf
    isplitl [Hr]; · iexact Hr
    isplitl [Hxr]; · iexact Hxr
    isplitl [Hb1]; · iexact Hb1
    isplitl [Hz1]; · iexact Hz1
    iexists W1; isplitr
    · ipureintro; exact hW1
    iexact HO
  iintro %a HI
  unfold pairInv
  icases HI with ⟨%ha, -, Hf, Hr, Hx, Hb1, Hz1, %W2, %hW2, HO⟩
  have hT : Scf.trips k0_t1_loop.lb k0_t1_loop.ub k0_t1_loop.st = 3 := by decide
  rw [hT] at ha
  have ha' : a = accTile A X (wid L) 6 := ha
  have hc6 : cf (2 * Scf.trips k0_t1_loop.lb k0_t1_loop.ub k0_t1_loop.st) = cf 6 := by rw [hT]
  simp only [hc6]
  -- the last chunk's issue
  ihave Hx' := (x_split d L (cf 7) q.right X) $$ Hx
  icases Hx' with ⟨Hxp, Hxr⟩
  iapply (wp_issue d L b1 cc0_scratch5.sem (cf 7) q.right X (slice_eq L _ _ _ (off1_last L))) $$ [Hxp Hb1 Hz1]
  · isplitl [Hxp]; · iexact Hxp
    isplitl [Hb1]; · iexact Hb1
    iexact Hz1
  iintro Hf1
  iapply (wp_land d L b0 cc0_scratch4.sem (cf 6) q.left X hW2) $$ [Hf HO]
  · isplitr; · iexact Hmw
    isplitl [Hf]; · iexact Hf
    iexact HO
  iintro ⟨Hb0, Hxp, Hz0, %W3, %hW3, HO⟩
  ihave Hxl := (x_join d L (cf 6) q.left X) $$ [Hxp Hr]
  · isplitl [Hxp] <;> iassumption
  iapply (wp_fold d L A b0 (chunk X (wid L) (cf 6).val))
  isplitl [Hb0]; · iexact Hb0
  iintro Hb0
  iapply (wp_land d L b1 cc0_scratch5.sem (cf 7) q.right X hW3) $$ [Hf1 HO]
  · isplitr; · iexact Hmw
    isplitl [Hf1]; · iexact Hf1
    iexact HO
  iintro ⟨Hb1, Hxp, Hz1, %W4, %hW4, HO⟩
  ihave Hxr := (x_join d L (cf 7) q.right X) $$ [Hxp Hxr]
  · isplitl [Hxp] <;> iassumption
  iapply (wp_fold d L A b1 (chunk X (wid L) (cf 7).val))
  isplitl [Hb1]; · iexact Hb1
  iintro Hb1
  rw [wp_ret]; imodintro
  isplitr
  · ipureintro
    have h8 : accTile A X (wid L) 8 = accChunk A (chunk X (wid L) 7) (accChunk A (chunk X (wid L) 6) a) := by
      rw [ha', show (8 : ℕ) = 6 + 1 + 1 from rfl, accTile, accTile]
    rw [h8]
  isplitl [Hxl Hxr]
  · iapply (pointsTo_share (PosShare.mem_left_op_right q)).2
    isplitl [Hxl] <;> iassumption
  isplitl [Ha]; · iexact Ha
  isplitl [Hb0]; · iapply (some_of_holds d L b0 _); iexact Hb0
  isplitl [Hb1]; · iapply (some_of_holds d L b1 _); iexact Hb1
  isplitl [Hp]; · iexists _; iexact Hp
  isplitl [Hz0]; · iexact Hz0
  isplitl [Hz1]; · iexact Hz1
  isplitl [Hz2]; · iexact Hz2
  iexists W4; isplitr
  · ipureintro; exact hW4
  iexact HO

set_option maxHeartbeats 8000000 in
/-- A subcore's run: its shares and its row, to the shares and the row at its sums. -/
theorem tile_body (hF : (K (F := F)).Facts) (A : Vec F S16 .f32) (X : Vec F S3211264 .f32) (O : CellTallies nD τ sig (HIx 1)) (W : Waits sig (HIx 1)) (hO : ∀ g, O g none = 0) :
    iprop(levAts (K (F := F)).L (K (F := F)).lev ∗ emp ∗ goP (F := F) d A X (wF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xV (Memref.isWhole_whole _) aV (Memref.isWhole_whole _) oV (Memref.isWhole_whole _)
            b0 (Memref.isWhole_whole _) b1 (Memref.isWhole_whole _) pV (Memref.isWhole_whole _) gV (Memref.isWhole_whole _)
            cc0_scratch4 cc0_scratch5 cc0_scoped0 cc0_scoped1)
          fun _ => iprop(tdP (F := F) d A X (wF L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L)]
  rw [show (ownSems0 (V d (cV L) (jV L)) : sProp 𝕄) = _ from ownSems0_tile d L, show (ownBufs (V d (cV L) (jV L)) : sProp 𝕄) = _ from ownBufs_tile d L]
  iintro ⟨#Hlv, -, ⟨Hx, Ha, %fo, Ho⟩, ⟨⟨%f0, Hb0⟩, ⟨%f1, Hb1⟩, ⟨%fp, Hp⟩, ⟨%fg, Hg⟩, Hbufs⟩, ⟨Hz0, Hz1, Hz2, Hz3, Hsems⟩, HO⟩
  ihave #Hmw := (show levAts (K (F := F)).L (K (F := F)).lev ⊢ Transfers.MayWaits (thr d L) (none : HIx 1) O from
    (K (F := F)).mayWaits_none (thr := V d (cV L) (jV L)) hO) $$ Hlv
  rw [wp_bind]
  iapply (wp_wand frame (wpE (defs₀ (F := F)) 𝒱₀ (thr d L) none) Set.univ (Q := fun r => iprop(⌜accOf r = accTile A X (wid L) 8⌝ ∗ restP (F := F) d L A X (qw (wF L)) O W))) $$ [Hx Ha Hb0 Hb1 Hp Hz0 Hz1 Hz2 HO]
  · iapply (wp_part1 d L A X (qw (wF L)) O W)
    isplitr; · iexact Hmw
    isplitl [Hx]; · iexact Hx
    isplitl [Ha]; · iexact Ha
    isplitl [Hb0]; · iexists f0; rw [show (b0).view.set = Finset.univ from View.set_whole _]; iexact Hb0
    isplitl [Hb1]; · iexists f1; rw [show (b1).view.set = Finset.univ from View.set_whole _]; iexact Hb1
    isplitl [Hp]; · iexists fp; iexact Hp
    isplitl [Hz0]; · iexact Hz0
    isplitl [Hz1]; · iexact Hz1
    isplitl [Hz2]; · iexact Hz2
    iexists W; isplitr
    · ipureintro; exact fun p hp => .inl hp
    iexact HO
  iintro %r ⟨%hr, Hx, Ha, Hb0, Hb1, Hp, Hz0, Hz1, Hz2, %W1, %hW1, HO⟩
  obtain ⟨a0, a1, a2, a3, a4, a5, a6, a7, a8, a9, a10, a11, a12⟩ := r
  dsimp only
  let a : Acc F := (a0, a1, a2, a3, a4, a5, a6, a7, a8, a9, a10, a11, a12)
  -- the thirteen sums staged
  ihave Hg := (show ((thr d L).loc cc0_scratch3 ↦{fullShare} fg : sProp 𝕄) ⊢ stagedTo (F := F) d L a 0 by
    unfold stagedTo; iintro H; iexists fg; isplitr
    · ipureintro; intro j hj; exact absurd hj (by omega)
    rw [show (gV).view.set = Finset.univ from View.set_whole _]; iexact H) $$ Hg
  simp only [k0_part2_eq_skeleton]; unfold k0_part2_skel
  simp only [Prog.lift, Prog.bind_op, Prog.bind_ret, Prog.pure_eq_ret, Prog.bind_assoc]
  iapply (wp_put (F := F) d L a 0 (by decide) (off := ![0]) rfl (cast16 _ _)) $$ [Hg]; · iexact Hg
  iintro Hg
  iapply (wp_put (F := F) d L a 1 (by decide) (off := ![16]) rfl (cast16 _ _)) $$ [Hg]; · iexact Hg
  iintro Hg
  iapply (wp_put (F := F) d L a 2 (by decide) (off := ![32]) rfl (cast16 _ _)) $$ [Hg]; · iexact Hg
  iintro Hg
  iapply (wp_put (F := F) d L a 3 (by decide) (off := ![48]) rfl (cast16 _ _)) $$ [Hg]; · iexact Hg
  iintro Hg
  iapply (wp_put (F := F) d L a 4 (by decide) (off := ![64]) rfl (cast16 _ _)) $$ [Hg]; · iexact Hg
  iintro Hg
  iapply (wp_put (F := F) d L a 5 (by decide) (off := ![80]) rfl (cast16 _ _)) $$ [Hg]; · iexact Hg
  iintro Hg
  iapply (wp_put (F := F) d L a 6 (by decide) (off := ![96]) rfl (cast16 _ _)) $$ [Hg]; · iexact Hg
  iintro Hg
  iapply (wp_put (F := F) d L a 7 (by decide) (off := ![112]) rfl (cast16 _ _)) $$ [Hg]; · iexact Hg
  iintro Hg
  iapply (wp_put (F := F) d L a 8 (by decide) (off := ![128]) rfl (cast16 _ _)) $$ [Hg]; · iexact Hg
  iintro Hg
  iapply (wp_put (F := F) d L a 9 (by decide) (off := ![144]) rfl (cast16 _ _)) $$ [Hg]; · iexact Hg
  iintro Hg
  iapply (wp_put (F := F) d L a 10 (by decide) (off := ![160]) rfl (cast16 _ _)) $$ [Hg]; · iexact Hg
  iintro Hg
  iapply (wp_put (F := F) d L a 11 (by decide) (off := ![176]) rfl (cast16 _ _)) $$ [Hg]; · iexact Hg
  iintro Hg
  iapply (wp_put (F := F) d L a 12 (by decide) (off := ![192]) rfl (cast16 _ _)) $$ [Hg]; · iexact Hg
  iintro Hg
  unfold stagedTo
  icases Hg with ⟨%g, %hg, Hg⟩
  ihave Ho := (Entails.of_eq (show (oLoc d ↦[rowSet (wF L)]{fullShare} fo : sProp 𝕄) = ((oRow L).view.loc (thr d L) ↦[(oRow L).view.set]{fullShare} fo) by
    rw [set_oRow])) $$ Ho
  iapply (wp_move d L (src := gV) (dst := oRow L) (by decide) fullShare g fo hW1) $$ [Hg Ho Hz3 HO]
  · isplitr; · iexact Hmw
    isplitl [Hg]; · iexact Hg
    isplitl [Ho]; · iexact Ho
    isplitl [Hz3] <;> iassumption
  iintro ⟨Hg, Ho, Hz3, %W2, %hW2, HO⟩
  ihave Ho := (show ((oRow L).view.loc (thr d L) ↦[(oRow L).view.set]{fullShare} _ : sProp 𝕄) ⊢ (oLoc d ↦[rowSet (wF L)]{fullShare} rowsOut A X) by
    rw [← set_oRow]
    exact Entails.of_eq (pointsTo_congr (row_written L A X fo g (hr ▸ hg)))) $$ Ho
  rw [wp_ret]; imodintro
  isplitl [Hx Ha Ho]
  · isplitl [Hx]; · iexact Hx
    isplitl [Ha]; · iexact Ha
    iexact Ho
  isplitl [Hb0 Hb1 Hp Hg Hbufs]
  · unfold some_
    rw [show (b0).view.set = Finset.univ from View.set_whole _, show (b1).view.set = Finset.univ from View.set_whole _]
    isplitl [Hb0]; · icases Hb0 with ⟨%f, H⟩; iexists f; iexact H
    isplitl [Hb1]; · icases Hb1 with ⟨%f, H⟩; iexists f; iexact H
    isplitl [Hp]; · icases Hp with ⟨%f, H⟩; iexists f; rw [show (pV).view.set = Finset.univ from View.set_whole _]; iexact H
    isplitl [Hg]; · iexists g; rw [show (gV).view.set = Finset.univ from View.set_whole _]; iexact Hg
    iexact Hbufs
  isplitl [Hz0 Hz1 Hz2 Hz3 Hsems]
  · isplitl [Hz0]; · iexact Hz0
    isplitl [Hz1]; · iexact Hz1
    isplitl [Hz2]; · iexact Hz2
    isplitl [Hz3]; · iexact Hz3
    iexact Hsems
  iexists W2; isplitr
  · ipureintro; exact hW2
  iexact HO

end Cert.Proof.Quant
-- ==== Proof.ScCall.lean ====
/-
  The SparseCore call: what the handshakes carry, the subcores' obligation, and how the arrays split among the thirty-two
  subcores and join again.
-/
module

public import proofs.«01_k».proof.Proof.Tile

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S3211264 EltTy.f32)
local notation "aV" => (Memref.whole Cert.KernelIdeal.main_v2_scv : Memref Cert.KernelIdeal.sig Kind.scVector Space.hbm Cert.KernelIdeal.S16 EltTy.f32)
local notation "oV" => (Memref.whole Cert.KernelIdeal.main_v3_scv : Memref Cert.KernelIdeal.sig Kind.scVector Space.hbm Cert.KernelIdeal.S32x208 EltTy.f32)
local notation "b0" => (Memref.whole Cert.KernelIdeal.cc0_scratch0 : Memref Cert.KernelIdeal.sig Kind.scVector Space.vmem Cert.KernelIdeal.S12544 EltTy.f32)
local notation "b1" => (Memref.whole Cert.KernelIdeal.cc0_scratch1 : Memref Cert.KernelIdeal.sig Kind.scVector Space.vmem Cert.KernelIdeal.S12544 EltTy.f32)
local notation "pV" => (Memref.whole Cert.KernelIdeal.cc0_scratch2 : Memref Cert.KernelIdeal.sig Kind.scVector Space.vmem Cert.KernelIdeal.S16 EltTy.f32)
local notation "gV" => (Memref.whole Cert.KernelIdeal.cc0_scratch3 : Memref Cert.KernelIdeal.sig Kind.scVector Space.vmem Cert.KernelIdeal.S208 EltTy.f32)

/-- The subcore that core `c` runs as its task `i`: number `2 i + c`. -/
abbrev wOf (c : Fin ((K (F := F)).nCore 0)) (i : Fin ((K (F := F)).nSub 0)) : Fin 32 :=
  ⟨2 * i.val + c.val, by have h1 : c.val < 2 := c.isLt; have h2 : i.val < 16 := i.isLt; omega⟩

variable [FloatOps F] (A : Dev nD → Vec F S16 .f32) (X : Dev nD → Vec F S3211264 .f32)

/-- What the handshakes carry: to each task its shares and its row, back the shares and the row at its sums; a core is handed
    its sixteen tasks' operands together. -/
def P : (K (F := F)).Pay (nD := nD) (Val := Elt F) (Name := ℕ) (U := UU) where
  st := fun q d c => match q with | 0 => bigSep Finset.univ fun i => goP (F := F) d (A d) (X d) (wOf c i)
  dn := fun q d c => match q with | 0 => bigSep Finset.univ fun i => tdP (F := F) d (A d) (X d) (wOf c i)
  go := fun q d c i => match q with | 0 => goP (F := F) d (A d) (X d) (wOf c i)
  td := fun q d c i => match q with | 0 => tdP (F := F) d (A d) (X d) (wOf c i)
  x := fun _ _ => iprop(emp)

instance P_storable : (P (F := F) A X).IsStorable where
  st := fun q _ _ => match q with | 0 => by unfold P; infer_instance
  dn := fun q _ _ => match q with | 0 => by unfold P; infer_instance
  go := fun q _ _ _ => match q with | 0 => by unfold P; infer_instance
  td := fun q _ _ _ => match q with | 0 => by unfold P; infer_instance

/-! ## The subcores' obligation -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          xV (Memref.isWhole_whole _) aV (Memref.isWhole_whole _) oV (Memref.isWhole_whole _)
          b0 (Memref.isWhole_whole _) b1 (Memref.isWhole_whole _) pV (Memref.isWhole_whole _) gV (Memref.isWhole_whole _)
          cc0_scratch4 cc0_scratch5 cc0_scoped0 cc0_scoped1) ⟨⟩ c s := rfl

omit [FloatOps F] in
theorem obl_post {thr : Thread nD τ} {B₁ B₂ B₃ : sProp 𝕄} {O : CellTallies nD τ sig (HIx 1)} {W : Waits sig (HIx 1)} {q : Fin 1} :
    iprop(B₁ ∗ B₂ ∗ B₃ ∗ ∃ W', ⌜∀ p ∈ W', p ∈ W ∨ p.2 = none⌝ ∗ owes thr O W')
      ⊢ iprop(B₁ ∗ B₂ ∗ B₃ ∗ ∃ W', ⌜∀ p ∈ W', p ∈ W ∨ p.2 = none ∨ p.2 = some q⌝ ∗ owes thr O W') := by
  iintro ⟨H1, H2, H3, %W', %hW', HO⟩
  isplitl [H1]; · iexact H1
  isplitl [H2]; · iexact H2
  isplitl [H3]; · iexact H3
  iexists W'; isplitr
  · ipureintro; exact fun p hp => (hW' p hp).imp_right Or.inl
  · iexact HO

set_option maxRecDepth 16384 in
theorem tileObl (hF : (K (F := F)).Facts) : (K (F := F)).TileObl (D (F := F)) 𝒱 (P A X) v₀ 0 := by
  intro d c i O W hO _ _
  simp only [show (P (F := F) A X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (A d) (X d) O W hO).trans (wp_mono frame _ _ fun _ => obl_post)

/-! ## The split among the subcores -/

theorem vecSplit : (K (F := F)).VecSplit' (P A X) 0 := by
  intro d c
  show (bigSep Finset.univ fun i => goP (F := F) d (A d) (X d) (wOf c i)) ⊢ |={Set.univ}=> iprop(
      (bigSep Finset.univ fun i => goP (F := F) d (A d) (X d) (wOf c i))
      ∗ ((bigSep Finset.univ fun i => tdP (F := F) d (A d) (X d) (wOf c i)) -∗ bigSep Finset.univ fun i => tdP (F := F) d (A d) (X d) (wOf c i)))
  iintro H; imodintro
  isplitl [H]; · iexact H
  iintro H; iexact H

omit [FloatOps F] in
theorem rowSet_eq (w : Fin 32) : rowSet w = (orow w).set := by
  show ((View.whole (main_v3_scv : Ref sig .scVector)).slice (orow w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint odiv h
omit [FloatOps F] in
theorem rows_cover : (Finset.univ : Finset (Fin 32)).biUnion rowSet = Finset.univ :=
  (Finset.biUnion_congr rfl fun i _ => rowSet_eq i).trans (Rect.biUnion_part odiv)
omit [FloatOps F] in
theorem oPts_rows (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]

omit [FloatOps F] in
theorem wOf_inj : Function.Injective fun p : Fin ((K (F := F)).nCore 0) × Fin ((K (F := F)).nSub 0) => wOf (F := F) p.1 p.2 := by
  rintro ⟨c, i⟩ ⟨c', i'⟩ h
  have h' : 2 * i.val + c.val = 2 * i'.val + c'.val := congrArg Fin.val h
  have h1 : c.val < 2 := c.isLt
  have h2 : c'.val < 2 := c'.isLt
  have e1 : c = c' := Fin.ext (by omega)
  have e2 : i = i' := Fin.ext (by omega)
  rw [e1, e2]

/-- Core and task against the subcore's number. -/
def coresTasks : Fin ((K (F := F)).nCore 0) × Fin ((K (F := F)).nSub 0) ≃ Fin 32 :=
  Equiv.ofBijective _ ((Fintype.bijective_iff_injective_and_card _).mpr ⟨wOf_inj, rfl⟩)

omit [FloatOps F] in
/-- The thirty-two subcores, by core and task. -/
theorem bigSep_subcores (Φ : Fin 32 → sProp 𝕄) :
    (bigSep Finset.univ fun c : Fin ((K (F := F)).nCore 0) => bigSep Finset.univ fun i : Fin ((K (F := F)).nSub 0) => Φ (wOf c i)) = bigSep Finset.univ Φ := by
  refine (bigSep_univ_prod (fun p : Fin ((K (F := F)).nCore 0) × Fin ((K (F := F)).nSub 0) => Φ (wOf p.1 p.2))).symm.trans ?_
  exact (bigSep_univ_equiv coresTasks Φ).symm

omit [FloatOps F] in
/-- The result's rows, at one contents, are the result. -/
theorem rows_pts (d : Dev nD) (f : Buf (Elt F) (oLoc d)) :
    (bigSep Finset.univ fun c : Fin ((K (F := F)).nCore 0) => bigSep Finset.univ fun i : Fin ((K (F := F)).nSub 0) => (oLoc d ↦[rowSet (wOf (F := F) c i)]{fullShare} f : sProp 𝕄))
      = oLoc d ↦{fullShare} f := by
  rw [oPts_rows]
  exact bigSep_subcores (F := F) fun w => oLoc d ↦[rowSet w]{fullShare} f

/-- The whole arrays, dealt to the cores; what is kept of the read arrays stays aside. -/
theorem deal (d : Dev nD) (fo : Buf (Elt F) (oLoc d)) :
    iprop((xLoc d ↦{fullShare} X d) ∗ (aLoc d ↦{fullShare} A d) ∗ oLoc d ↦{fullShare} fo)
      ⊢ (iprop((bigSep Finset.univ fun c : Fin ((K (F := F)).nCore 0) => (P (F := F) A X).st 0 d c)
          ∗ (xLoc d ↦{Transfers.shareDrop fullShare 32} X d) ∗ (aLoc d ↦{Transfers.shareDrop fullShare 32} A d)) : sProp 𝕄) := by
  rw [show (bigSep Finset.univ fun c : Fin ((K (F := F)).nCore 0) => (P (F := F) A X).st 0 d c)
      = bigSep Finset.univ fun w : Fin 32 => goP (F := F) d (A d) (X d) w from bigSep_subcores (F := F) fun w => goP (F := F) d (A d) (X d) w]
  rw [bigSep_sep', bigSep_sep', oPts_rows]
  iintro ⟨Hx, Ha, Ho⟩
  ihave Hx := (Transfers.pointsTo_toks_split (ℓ := xLoc d) fullShare 32) $$ Hx
  ihave Ha := (Transfers.pointsTo_toks_split (ℓ := aLoc d) fullShare 32) $$ Ha
  icases Hx with ⟨Hxd, Hx⟩
  icases Ha with ⟨Had, Ha⟩
  isplitl [Hx Ha Ho]
  · isplitl [Hx]; · iexact Hx
    isplitl [Ha]; · iexact Ha
    iapply (show (bigSep Finset.univ fun i : Fin 32 => (oLoc d ↦[rowSet i]{fullShare} fo : sProp 𝕄))
        ⊢ bigSep Finset.univ fun i : Fin 32 => iprop(∃ f, oLoc d ↦[rowSet i]{fullShare} f) from
      bigSep_mono fun i _ => (show (oLoc d ↦[rowSet i]{fullShare} fo : sProp 𝕄) ⊢ iprop(∃ f, oLoc d ↦[rowSet i]{fullShare} f) by iintro H; iexists fo; iexact H))
    iexact Ho
  isplitl [Hxd] <;> iassumption

/-- What the cores give back, with what was kept: the whole arrays, the result at the rows of sums. -/
theorem gather (d : Dev nD) :
    iprop((bigSep Finset.univ fun c : Fin ((K (F := F)).nCore 0) => (P (F := F) A X).dn 0 d c)
          ∗ (xLoc d ↦{Transfers.shareDrop fullShare 32} X d) ∗ (aLoc d ↦{Transfers.shareDrop fullShare 32} A d))
      ⊢ (iprop((xLoc d ↦{fullShare} X d) ∗ (aLoc d ↦{fullShare} A d) ∗ oLoc d ↦{fullShare} rowsOut (A d) (X d)) : sProp 𝕄) := by
  rw [show (bigSep Finset.univ fun c : Fin ((K (F := F)).nCore 0) => (P (F := F) A X).dn 0 d c)
      = bigSep Finset.univ fun w : Fin 32 => tdP (F := F) d (A d) (X d) w from bigSep_subcores (F := F) fun w => tdP (F := F) d (A d) (X d) w]
  rw [bigSep_sep', bigSep_sep', oPts_rows]
  iintro ⟨⟨Hx, Ha, Ho⟩, Hxd, Had⟩
  isplitl [Hx Hxd]
  · iapply (Transfers.pointsTo_toks_join (ℓ := xLoc d) fullShare 32)
    isplitl [Hxd] <;> iassumption
  isplitl [Ha Had]
  · iapply (Transfers.pointsTo_toks_join (ℓ := aLoc d) fullShare 32)
    isplitl [Had] <;> iassumption
  iexact Ho

end Cert.Proof.Quant
-- ==== Proof.TcFold.lean ====
/-
  What the TensorCore's call computes, as pure functions: one step of the thirteen running sums on a face, the fold of a
  block of 64 faces, and the thirteen planes of partial sums that the blocks before a grid point leave.
-/
module

public import proofs.«01_k».proof.Proof.Setup

@[expose] public section

noncomputable section

namespace Cert.Proof.Quant

open Cert.KernelIdeal Cert.KernelIdeal.Gen
open Idealize.ShloMosaic

variable {F : FTy → Type} [FloatOps F]

/-- The thirteen running sums of the TensorCore, a plane of 8 by 56 each. -/
abbrev TAcc (F : FTy → Type) : Type :=
  FVec F S8x56 .f32 × FVec F S8x56 .f32 × FVec F S8x56 .f32 × FVec F S8x56 .f32 × FVec F S8x56 .f32 × FVec F S8x56 .f32 × FVec F S8x56 .f32
    × FVec F S8x56 .f32 × FVec F S8x56 .f32 × FVec F S8x56 .f32 × FVec F S8x56 .f32 × FVec F S8x56 .f32 × FVec F S8x56 .f32

/-- The running sums at the start of a block. -/
abbrev tAcc0 : TAcc F :=
  (k1_pay31, k1_pay31, k1_pay31, k1_pay31, k1_pay31, k1_pay31, k1_pay31, k1_pay31, k1_pay31, k1_pay31, k1_pay31, k1_pay31, k1_pay31)

/-- The constants one and zero of the body. -/
abbrev one32 : F .f32 := Scalar.ofBits .f32 0x3F800000#32
abbrev zero32 : F .f32 := Scalar.ofBits .f32 0x00000000#32

/-- The running sums after one more face `f`, at step `α`. -/
def tStep (α : Elt F .f32) (f : Vec F S1x1x56x56 .f32) (a : TAcc F) : TAcc F :=
  match a with
  | (a0, a1, a2, a3, a4, a5, a6, a7, a8, a9, a10, a11, a12) =>
    (k1_pay17 a0 (k1_pay15 α one32 zero32 f) (k1_pay16 α one32 zero32 f), k1_pay18 a1 (k1_pay4 α one32 zero32 f),
      k1_pay19 a2 (k1_pay5 α one32 zero32 f), k1_pay20 a3 (k1_pay2 f), k1_pay21 a4 (k1_pay6 α one32 zero32 f),
      k1_pay24 a5 (k1_pay7 α one32 zero32 f) (k1_pay22 (k1_pay7 α one32 zero32 f)) (k1_pay23 (k1_pay7 α one32 zero32 f)),
      k1_pay25 a6 (k1_pay8 α one32 zero32 f), k1_pay26 a7 (k1_pay9 f), k1_pay27 a8 (k1_pay12 α one32 zero32 f),
      k1_pay32 a9 (k1_pay13 α one32 zero32 f) (k1_pay28 (k1_pay13 α one32 zero32 f)) (k1_pay29 (k1_pay13 α one32 zero32 f)),
      k1_pay33 a10 (k1_pay14 α one32 zero32 f), k1_pay34 a11 (k1_pay10 α one32 zero32 f), k1_pay35 a12 (k1_pay11 α one32 zero32 f))

/-- Face `t` of a block. -/
def face (B : Vec F S1x64x56x56 .f32) (t : ℕ) : Vec F S1x1x56x56 .f32 := fun j =>
  B fun
    | 0 => ⟨0, by decide⟩
    | 1 => ⟨t % 64, show t % 64 < 64 by omega⟩
    | 2 => j 2
    | 3 => j 3

/-- The running sums after the first `n` faces of a block. -/
def tFold (α : Elt F .f32) (B : Vec F S1x64x56x56 .f32) : ℕ → TAcc F
  | 0 => tAcc0
  | n + 1 => tStep α (face B n) (tFold α B n)

/-- Sum `k` of the thirteen. -/
def TAcc.get (a : TAcc F) : ℕ → FVec F S8x56 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2.1
  | 8 => a.2.2.2.2.2.2.2.2.1
  | 9 => a.2.2.2.2.2.2.2.2.2.1
  | 10 => a.2.2.2.2.2.2.2.2.2.2.1
  | 11 => a.2.2.2.2.2.2.2.2.2.2.2.1
  | _ => a.2.2.2.2.2.2.2.2.2.2.2.2

/-- Plane `k` of the scratch. -/
def plane (M : Vec F S13x8x56 .f32) (k : Fin 13) : Vec F S1x8x56 .f32 := fun x =>
  M fun
    | 0 => k
    | 1 => x 1
    | 2 => x 2

/-- The scratch with a block's sums added, plane by plane. -/
def bump (M : Vec F S13x8x56 .f32) (a : TAcc F) : Vec F S13x8x56 .f32 := fun j =>
  k1_pay36 (a.get (j 0).val) (plane M (j 0)) fun
    | 0 => ⟨0, by decide⟩
    | 1 => j 1
    | 2 => j 2

/-- The scratch with the first `n` planes' sums added. -/
def bumpTo (M : Vec F S13x8x56 .f32) (a : TAcc F) (n : ℕ) : Vec F S13x8x56 .f32 := fun j =>
  if (j 0).val < n then bump M a j else M j

theorem bumpTo_zero (M : Vec F S13x8x56 .f32) (a : TAcc F) : bumpTo M a 0 = M := by
  funext j; exact if_neg (by omega)

theorem bumpTo_all (M : Vec F S13x8x56 .f32) (a : TAcc F) : bumpTo M a 13 = bump M a := by
  funext j; exact if_pos (show (j 0).val < 13 from (j 0).isLt)

/-- The condition under which a grid point clears the scratch: it is the first. -/
def atFirst (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The scratch as the sums of a grid point are added to it. -/
def cleared (i : grid1.Coords) (M : Vec F S13x8x56 .f32) : Vec F S13x8x56 .f32 := if atFirst i = 1#1 then k1_pay30 else M

/-- The step, as the body reads it. -/
def alphaOf (X : Vec F S8 .f32) : Elt F .f32 := X fun | 0 => ⟨0, by decide⟩

/-- The scratch after a grid point. -/
def tcStep (i : grid1.Coords) (X : Vec F S8 .f32) (B : Vec F S1x64x56x56 .f32) (M : Vec F S13x8x56 .f32) : Vec F S13x8x56 .f32 :=
  bump (cleared i M) (tFold (alphaOf X) B 64)

end Cert.Proof.Quant
-- ==== Proof.TcOps.lean ====
/-
  The pieces of the TensorCore call's body at a grid point: the loop that folds the block's 64 faces, and the adding of a
  sum to its plane of the scratch.
-/
module

public import proofs.«01_k».proof.Proof.TcFold

@[expose] public section

noncomputable section

namespace Cert.Proof.Quant

open Cert.KernelIdeal Cert.KernelIdeal.Gen

open Idealize.ShloMosaic hiding T
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "sV" => (Memref.whole Cert.KernelIdeal.cc1_scratch0 : Memref Cert.KernelIdeal.sig Kind.tc Space.vmem Cert.KernelIdeal.S13x8x56 EltTy.f32)

variable (d : Dev nD)

/-- The scratch's contents. -/
def scr (M : Vec F S13x8x56 .f32) : sProp 𝕄 := (sV).view.loc (T d) ↦[(sV).view.set]{fullShare} M

theorem scr_eq (M : Vec F S13x8x56 .f32) : scr (F := F) d M = ((T d).loc cc1_scratch0 ↦{fullShare} M) := by
  unfold scr; rw [show (sV).view.set = Finset.univ from View.set_whole _]

/-- Face `t` of the block, as the loop's load reads it. -/
theorem load_face (m : Memref sig .tc .vmem S1x64x56x56 .f32) (f : m.view.ty.Contents (Elt F)) (t : Fin k1_t1_loop.trips) :
    (fun j => m.view.read (Elt F) f ((Rect.unit (s := S1x64x56x56) (k1_off1 t) S1x1x56x56.size (k1_off1_inb t)).emb j)) = face (m.view.read (Elt F) f) t.val := by
  funext j
  unfold face
  refine congrArg _ (funext fun a => Fin.ext ?_)
  have ht : t.val < 64 := t.isLt
  match a with
  | 0 =>
    have e : k1_off1 t 0 = 0 := congrFun (k1_off1_eq t) 0
    have hj : (j 0).val < 1 := (j 0).isLt
    show (k1_off1 t) 0 + 1 * (j 0).val = 0
    omega
  | 1 =>
    have e : k1_off1 t 1 = t.val := congrFun (k1_off1_eq t) 1
    have hj : (j 1).val < 1 := (j 1).isLt
    show (k1_off1 t) 1 + 1 * (j 1).val = t.val % 64
    omega
  | 2 =>
    have e : k1_off1 t 2 = 0 := congrFun (k1_off1_eq t) 2
    show (k1_off1 t) 2 + 1 * (j 2).val = (j 2).val
    omega
  | 3 =>
    have e : k1_off1 t 3 = 0 := congrFun (k1_off1_eq t) 3
    show (k1_off1 t) 3 + 1 * (j 3).val = (j 3).val
    omega

/-- The loop's invariant: the block unchanged, the running sums the fold of the faces so far. -/
def tInv (α : Elt F .f32) (m : Memref sig .tc .vmem S1x64x56x56 .f32) (B : Vec F S1x64x56x56 .f32) (t : ℕ) (a : TAcc F) : sProp 𝕄 :=
  iprop(⌜a = tFold α B t⌝ ∗ owns (T d) m fullShare B)

set_option maxHeartbeats 2000000 in
/-- The loop over a block: it ends with the block's thirteen sums. -/
theorem wp_tfold (i : grid1.Coords) (α : Elt F .f32) (B : Vec F S1x64x56x56 .f32)
    (arg2 : Memref sig .tc .smem S8 .f32) (harg2 : arg2.IsWhole) (m : Memref sig .tc .vmem S1x64x56x56 .f32) (hm : m.IsWhole)
    (arg4 : Memref sig .tc .vmem S13x8x56 .f32) (harg4 : arg4.IsWhole) (arg5 : Memref sig .tc .vmem S13x8x56 .f32) (harg5 : arg5.IsWhole)
    {β : Type} {k : TAcc F → Prog (TpuEff nD τ sig (Elt F) Λ₀ (T d).2) β} {Q : β → sProp 𝕄} :
    iprop(owns (T d) m fullShare B ∗ (owns (T d) m fullShare B
        -∗ wp frame (wpE (defs₀ (F := F)) 𝒱₀ (T d) none) Set.univ (k (tFold α B 64)) Q))
      ⊢ wp frame (wpE (defs₀ (F := F)) 𝒱₀ (T d) none) Set.univ
          (Scf.Loop.for k1_t1_loop k1_t1_ok (tAcc0 : TAcc F)
            (k1_t1_body i arg2 harg2 m hm arg4 harg4 arg5 harg5 α one32 zero32) >>= k) Q := by
  iintro ⟨Hb, Hk⟩
  sl_for (tInv (F := F) d α m B) $$ [Hb]
  case region =>
    intro t a
    unfold tInv owns
    iintro ⟨%ha, %f, %hf, Hb⟩
    obtain ⟨a0, a1, a2, a3, a4, a5, a6, a7, a8, a9, a10, a11, a12⟩ := a
    sl_respell [k1_t1_body]
    simp only [k1_part1_eq_skeleton, k1_part2_eq_skeleton, k1_part3_eq_skeleton]
    unfold k1_part1_skel k1_part2_skel k1_part3_skel
    sl_exec
    sl_step
    isplitr
    · ipureintro
      rw [tFold, ← ha, ← hf, ← load_face]
      rfl
    iexists f; isplitr
    · ipureintro; exact hf
    iexact Hb
  · unfold tInv
    isplitr
    · ipureintro; rfl
    iexact Hb
  iintro %a HI
  unfold tInv
  icases HI with ⟨%ha, Hb⟩
  have ha' : a = tFold α B 64 := ha
  subst ha'
  iapply Hk
  iexact Hb

/-- A plane of the scratch, as a load of it reads. -/
theorem load_plane (M : Vec F S13x8x56 .f32) (a : TAcc F) (n : ℕ) (hn : n < 13) (inb : ∀ x, (![n, 0, 0] : Fin 3 → ℕ) x + S1x8x56.size x ≤ S13x8x56.size x) :
    (fun j => (sV).view.read (Elt F) (bumpTo M a n) ((Rect.unit (s := S13x8x56) ![n, 0, 0] S1x8x56.size inb).emb j)) = plane M ⟨n, hn⟩ := by
  funext j
  have hj : (j 0).val < 1 := (j 0).isLt
  have e : (Rect.unit (s := S13x8x56) ![n, 0, 0] S1x8x56.size inb).emb j = (fun | 0 => ⟨n, hn⟩ | 1 => j 1 | 2 => j 2 : S13x8x56.Idx) := by
    funext b; refine Fin.ext ?_
    match b with
    | 0 => show n + 1 * (j 0).val = n; omega
    | 1 => show 0 + 1 * (j 1).val = (j 1).val; omega
    | 2 => show 0 + 1 * (j 2).val = (j 2).val; omega
  rw [e]
  exact if_neg (show ¬ n < n by omega)

/-- Storing plane `n`'s sum. -/
theorem write_plane (M : Vec F S13x8x56 .f32) (a : TAcc F) (n : ℕ) (hn : n < 13) (inb : ∀ x, (![n, 0, 0] : Fin 3 → ℕ) x + S1x8x56.size x ≤ S13x8x56.size x) :
    ((sV).view.slice (Rect.unit (s := S13x8x56) ![n, 0, 0] S1x8x56.size inb)).write (Elt F) (bumpTo M a n) (k1_pay36 (a.get n) (plane M ⟨n, hn⟩)) Finset.univ
      = bumpTo M a (n + 1) := by
  funext j
  by_cases h : (j 0).val = n
  · let x : S1x8x56.Idx := fun | 0 => ⟨0, by decide⟩ | 1 => j 1 | 2 => j 2
    have hx : ((sV).view.slice (Rect.unit (s := S13x8x56) ![n, 0, 0] S1x8x56.size inb)).emb x = j := by
      funext b; refine Fin.ext ?_
      match b with
      | 0 => show n + 1 * 0 = (j 0).val; omega
      | 1 => show 0 + 1 * (j 1).val = (j 1).val; omega
      | 2 => show 0 + 1 * (j 2).val = (j 2).val; omega
    have h0 := View.write_emb_of_mem (Val := Elt F) (v := (sV).view.slice (Rect.unit (s := S13x8x56) ![n, 0, 0] S1x8x56.size inb)) (bumpTo M a n) (k1_pay36 (a.get n) (plane M ⟨n, hn⟩)) (M := Finset.univ) (x := x) (Finset.mem_univ _)
    rw [hx] at h0
    refine h0.trans ((cast_eq _ _).trans ?_)
    unfold bumpTo bump
    rw [if_pos (show (j 0).val < n + 1 by omega), show (⟨n, hn⟩ : Fin 13) = j 0 from Fin.ext h.symm, h]
    refine congrArg _ (funext fun b => ?_)
    match b with
    | 0 => rfl
    | 1 => rfl
    | 2 => rfl
  · rw [View.write_of_not_mem]
    · unfold bumpTo
      by_cases h' : (j 0).val < n
      · rw [if_pos h', if_pos (by omega)]
      · rw [if_neg h', if_neg (by omega)]
    · intro hm
      simp only [View.setOn, Finset.mem_map] at hm
      obtain ⟨x, -, hx⟩ := hm
      have hx0 : (x 0).val < 1 := (x 0).isLt
      have : (j 0).val = n + 1 * (x 0).val := by rw [← hx]; rfl
      omega

/-- A load of plane `n`, the planes before it added to. -/
theorem wp_load_plane (M : Vec F S13x8x56 .f32) (a : TAcc F) (n : ℕ) (hn : n < 13) {off : Fin 3 → ℕ} (he : off = ![n, 0, 0])
    {inb : ∀ x, off x + S1x8x56.size x ≤ S13x8x56.size x} {h1 : _}
    {β : Type} {k : Vec F S1x8x56 .f32 → Prog (TpuEff nD τ sig (Elt F) Λ₀ (T d).2) β} {Q : β → sProp 𝕄} :
    scr (F := F) d (bumpTo M a n)
      ⊢ iprop((scr (F := F) d (bumpTo M a n) -∗ wp frame (wpE (defs₀ (F := F)) 𝒱₀ (T d) none) Set.univ (k (plane M ⟨n, hn⟩)) Q)
        -∗ wp frame (wpE (defs₀ (F := F)) 𝒱₀ (T d) none) Set.univ
            (.op (.load sV (Rect.unit (s := S13x8x56) off S1x8x56.size inb).toLoadRect h1) k) Q) := by
  subst he
  unfold scr
  iintro Hg Hk
  sl_step
  rw [show View.readAt (Elt F) (sV).view (Rect.unit (s := S13x8x56) ![n, 0, 0] S1x8x56.size inb).toLoadRect (bumpTo M a n) = plane M ⟨n, hn⟩ from
    load_plane M a n hn inb]
  iapply Hk
  iexact Hg

/-- The store of plane `n` with its sum added. -/
theorem wp_store_plane (M : Vec F S13x8x56 .f32) (a : TAcc F) (n : ℕ) (hn : n < 13) {off : Fin 3 → ℕ} (he : off = ![n, 0, 0])
    {inb : ∀ x, off x + S1x8x56.size x ≤ S13x8x56.size x} {pay : FVec F S1x8x56 .f32} (hp : pay = k1_pay36 (a.get n) (plane M ⟨n, hn⟩)) {h2 : _} {h3 : _}
    {β : Type} {k : PUnit → Prog (TpuEff nD τ sig (Elt F) Λ₀ (T d).2) β} {Q : β → sProp 𝕄} :
    scr (F := F) d (bumpTo M a n)
      ⊢ iprop((scr (F := F) d (bumpTo M a (n + 1)) -∗ wp frame (wpE (defs₀ (F := F)) 𝒱₀ (T d) none) Set.univ (k ⟨⟩) Q)
        -∗ wp frame (wpE (defs₀ (F := F)) 𝒱₀ (T d) none) Set.univ
            (.op (.store sV (Rect.unit (s := S13x8x56) off S1x8x56.size inb) pay Finset.univ h2 h3) k) Q) := by
  subst he hp
  unfold scr
  iintro Hg Hk
  sl_step
  iapply Hk
  rw [← write_plane M a n hn inb]
  iexact Hg

/-- Plane `n` read, read again where it goes, and stored with its sum added. -/
theorem wp_plane (M : Vec F S13x8x56 .f32) (a : TAcc F) (n : ℕ) (hn : n < 13) {off : Fin 3 → ℕ} (he : off = ![n, 0, 0])
    {inb : ∀ x, off x + S1x8x56.size x ≤ S13x8x56.size x} {h1 : _} {h1' : _}
    {pay : Vec F S1x8x56 .f32 → FVec F S1x8x56 .f32} (hp : ∀ r, pay r = k1_pay36 (a.get n) r) {h2 : _} {h3 : _}
    {β : Type} {k : PUnit → Prog (TpuEff nD τ sig (Elt F) Λ₀ (T d).2) β} {Q : β → sProp 𝕄} :
    scr (F := F) d (bumpTo M a n)
      ⊢ iprop((scr (F := F) d (bumpTo M a (n + 1)) -∗ wp frame (wpE (defs₀ (F := F)) 𝒱₀ (T d) none) Set.univ (k ⟨⟩) Q)
        -∗ wp frame (wpE (defs₀ (F := F)) 𝒱₀ (T d) none) Set.univ
            (.op (.load sV (Rect.unit (s := S13x8x56) off S1x8x56.size inb).toLoadRect h1) fun r =>
              .op (.load sV (Rect.unit (s := S13x8x56) off S1x8x56.size inb).toLoadRect h1') fun _ =>
              .op (.store sV (Rect.unit (s := S13x8x56) off S1x8x56.size inb) (pay r) Finset.univ h2 h3) k) Q) := by
  iintro Hg Hk
  iapply (wp_load_plane (F := F) d M a n hn he) $$ [Hg]; · iexact Hg
  iintro Hg
  iapply (wp_load_plane (F := F) d M a n hn he) $$ [Hg]; · iexact Hg
  iintro Hg
  iapply (wp_store_plane (F := F) d M a n hn he (hp _)) $$ [Hg]; · iexact Hg
  iexact Hk

end Cert.Proof.Quant
-- ==== Proof.TcBody.lean ====
/-
  The run of the TensorCore call's body at a grid point: the scratch cleared at the first point, the block's 64 faces
  folded, the thirteen sums added to the scratch's planes, and the scratch copied out at the last point.
-/
module

public import proofs.«01_k».proof.Proof.TcOps

@[expose] public section

noncomputable section

namespace Cert.Proof.Quant

open Cert.KernelIdeal Cert.KernelIdeal.Gen

open Idealize.ShloMosaic hiding T
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "sV" => (Memref.whole Cert.KernelIdeal.cc1_scratch0 : Memref Cert.KernelIdeal.sig Kind.tc Space.vmem Cert.KernelIdeal.S13x8x56 EltTy.f32)

variable (d : Dev nD)

/-- The whole of a thirteen-plane array as a rectangle of it. -/
abbrev allRect : Rect S13x8x56 := Rect.unit (s := S13x8x56) ![0, 0, 0] S13x8x56.size inb_S13x8x56_S13x8x56_0_0_0

theorem allRect_emb (j : S13x8x56.Idx) : allRect.emb j = j := by
  funext b; refine Fin.ext ?_
  match b with
  | 0 => show 0 + 1 * (j 0).val = (j 0).val; omega
  | 1 => show 0 + 1 * (j 1).val = (j 1).val; omega
  | 2 => show 0 + 1 * (j 2).val = (j 2).val; omega

/-- A load of the whole array reads its contents. -/
theorem load_all (m : Memref sig .tc .vmem S13x8x56 .f32) (f : m.view.ty.Contents (Elt F)) :
    View.readAt (Elt F) m.view allRect.toLoadRect f = m.view.read (Elt F) f := by
  funext j
  exact congrArg (m.view.read (Elt F) f) (allRect_emb j)

/-- A store of the whole array leaves what was stored. -/
theorem store_all (m : Memref sig .tc .vmem S13x8x56 .f32) (f : m.view.ty.Contents (Elt F)) (v : Vec F S13x8x56 .f32) :
    m.view.read (Elt F) ((m.view.slice allRect).write (Elt F) f v Finset.univ) = v := by
  funext j
  have h := congrFun (View.read_write_univ (Val := Elt F) (v := m.view.slice allRect) f v) j
  exact (congrArg (m.view.read (Elt F) ((m.view.slice allRect).write (Elt F) f v Finset.univ)) (allRect_emb j).symm).trans h

/-- The step, as the body's scalar load reads it. -/
theorem load_alpha (m : Memref sig .tc .smem S8 .f32) (f : m.view.ty.Contents (Elt F)) (h : 0 < (Rect.unit (s := S8) ![0] S1.size inb_S8_S1_0).shape.numel) :
    View.readAt (Elt F) m.view (Rect.unit (s := S8) ![0] S1.size inb_S8_S1_0).toLoadRect f (Shape.Idx.first h) = alphaOf (m.view.read (Elt F) f) := by
  refine congrArg (m.view.read (Elt F) f) (funext fun b => Fin.ext ?_)
  match b with
  | 0 =>
    have : ((Shape.Idx.first h : (Rect.unit (s := S8) ![0] S1.size inb_S8_S1_0).shape.Idx) 0).val < 1 := (Shape.Idx.first h 0).isLt
    show 0 + 1 * (Shape.Idx.first h 0).val = 0
    omega

set_option maxHeartbeats 4000000 in
/-- The first part: the scratch cleared at the first point, the block folded, two planes added to and a third read. -/
theorem wp_part4 (i : grid1.Coords) (m2 : Memref sig .tc .smem S8 .f32) (h2 : m2.IsWhole) (m3 : Memref sig .tc .vmem S1x64x56x56 .f32) (h3 : m3.IsWhole)
    (m4 : Memref sig .tc .vmem S13x8x56 .f32) (h4 : m4.IsWhole) (h5 : (sV).IsWhole)
    (X2 : Vec F S8 .f32) (X3 : Vec F S1x64x56x56 .f32) (M : Vec F S13x8x56 .f32) (a : TAcc F) (ha : a = tFold (alphaOf X2) X3 64) :
    iprop(owns (T d) m2 fullShare X2 ∗ owns (T d) m3 fullShare X3 ∗ scr (F := F) d M)
      ⊢ wp frame (wpE (defs₀ (F := F)) 𝒱₀ (T d) none) Set.univ (k1_part4 i m2 h2 m3 h3 m4 h4 sV h5) fun r =>
          iprop(⌜r = ⟨BitVec.ofNat 32 (i 0).val, BitVec.ofNat 32 (i 1).val, a.get 3, a.get 4, a.get 5, a.get 6, a.get 7, a.get 8, a.get 9, a.get 10, a.get 11, a.get 12,
                k1_pay38 (a.get 2) (plane (cleared i M) ⟨2, by decide⟩)⟩⌝
            ∗ owns (T d) m2 fullShare X2 ∗ owns (T d) m3 fullShare X3 ∗ scr (F := F) d (bumpTo (cleared i M) a 2)) := by
  iintro ⟨H2, H3, Hs⟩
  simp only [k1_part4_eq_skeleton]; unfold k1_part4_skel smemLoad smemLoadElt
  dsimp only
  ihave Hs := (show scr (F := F) d M ⊢ ((sV).view.loc (T d) ↦[(sV).view.set]{fullShare} M : sProp 𝕄) from BIBase.Entails.rfl) $$ Hs
  ihave H2 := (show (owns (T d) m2 fullShare X2 : sProp 𝕄) ⊢ iprop(∃ f, ⌜m2.view.read (Elt F) f = X2⌝ ∗ (m2.view.loc (T d) ↦[m2.view.set]{fullShare} f)) from BIBase.Entails.rfl) $$ H2
  icases H2 with ⟨%f2, %hf2, H2⟩
  by_cases hc : atFirst i = 1#1
  case' pos =>
    have hc' := hc; unfold atFirst at hc'; rw [dif_pos hc']
    simp only [Prog.lift, Prog.bind_op, Prog.bind_ret, Prog.pure_eq_ret, Prog.bind_assoc]
    sl_step
    sl_step
    rw [show ((sV).view.slice allRect).write (Elt F) M k1_pay30 Finset.univ = cleared i M from (store_all sV M k1_pay30).trans (if_pos hc).symm]
  case' neg =>
    have hc' := hc; unfold atFirst at hc'; rw [dif_neg hc']
    simp only [Prog.lift, Prog.bind_op, Prog.bind_ret, Prog.pure_eq_ret, Prog.bind_assoc]
    ihave Hs := (show ((sV).view.loc (T d) ↦[(sV).view.set]{fullShare} M : sProp 𝕄) ⊢ ((sV).view.loc (T d) ↦[(sV).view.set]{fullShare} cleared i M) by
      rw [show cleared i M = M from if_neg hc]) $$ Hs
  all_goals
    sl_step
    rw [load_alpha, hf2]
    iapply (wp_tfold (F := F) d i (alphaOf X2) X3 m2 h2 m3 h3 m4 h4 sV h5) $$ [H3 Hs H2]
    isplitl [H3]; · iexact H3
    iintro H3
    subst ha
    ihave Hs := (show ((sV).view.loc (T d) ↦[(sV).view.set]{fullShare} cleared i M : sProp 𝕄) ⊢ scr (F := F) d (bumpTo (cleared i M) (tFold (alphaOf X2) X3 64) 0) by
      rw [bumpTo_zero]; exact BIBase.Entails.rfl) $$ Hs
    iapply (wp_plane (F := F) d (cleared i M) (tFold (alphaOf X2) X3 64) 0 (by decide) rfl (fun _ => rfl)) $$ [Hs]; · iexact Hs
    iintro Hs
    iapply (wp_plane (F := F) d (cleared i M) (tFold (alphaOf X2) X3 64) 1 (by decide) rfl (fun _ => rfl)) $$ [Hs]; · iexact Hs
    iintro Hs
    iapply (wp_load_plane (F := F) d (cleared i M) (tFold (alphaOf X2) X3 64) 2 (by decide) rfl) $$ [Hs]; · iexact Hs
    iintro Hs
    iapply (wp_load_plane (F := F) d (cleared i M) (tFold (alphaOf X2) X3 64) 2 (by decide) rfl) $$ [Hs]; · iexact Hs
    iintro Hs
    sl_step
    isplitr; · ipureintro; rfl
    isplitl [H2]
    · unfold owns; iexists f2; isplitr
      · ipureintro; exact hf2
      iexact H2
    isplitl [H3]; · iexact H3
    iexact Hs

set_option maxHeartbeats 4000000 in
/-- The second part: planes 2 to 6 stored, plane 7 read. -/
theorem wp_part5 (i : grid1.Coords) (m2 : Memref sig .tc .smem S8 .f32) (h2 : m2.IsWhole) (m3 : Memref sig .tc .vmem S1x64x56x56 .f32) (h3 : m3.IsWhole)
    (m4 : Memref sig .tc .vmem S13x8x56 .f32) (h4 : m4.IsWhole) (h5 : (sV).IsWhole) (M : Vec F S13x8x56 .f32) (a : TAcc F) :
    scr (F := F) d (bumpTo M a 2)
      ⊢ wp frame (wpE (defs₀ (F := F)) 𝒱₀ (T d) none) Set.univ
          (k1_part5 i m2 h2 m3 h3 m4 h4 sV h5 (a.get 3) (a.get 4) (a.get 5) (a.get 6) (a.get 7) (k1_pay38 (a.get 2) (plane M ⟨2, by decide⟩))) fun r =>
          iprop(⌜r = k1_pay44 (a.get 7) (plane M ⟨7, by decide⟩)⌝ ∗ scr (F := F) d (bumpTo M a 7)) := by
  iintro Hs
  simp only [k1_part5_eq_skeleton]; unfold k1_part5_skel
  simp only [Prog.lift, Prog.bind_op, Prog.bind_ret, Prog.pure_eq_ret, Prog.bind_assoc]
  iapply (wp_store_plane (F := F) d M a 2 (by decide) rfl rfl) $$ [Hs]; · iexact Hs
  iintro Hs
  iapply (wp_plane (F := F) d M a 3 (by decide) rfl (fun _ => rfl)) $$ [Hs]; · iexact Hs
  iintro Hs
  iapply (wp_plane (F := F) d M a 4 (by decide) rfl (fun _ => rfl)) $$ [Hs]; · iexact Hs
  iintro Hs
  iapply (wp_plane (F := F) d M a 5 (by decide) rfl (fun _ => rfl)) $$ [Hs]; · iexact Hs
  iintro Hs
  iapply (wp_plane (F := F) d M a 6 (by decide) rfl (fun _ => rfl)) $$ [Hs]; · iexact Hs
  iintro Hs
  iapply (wp_load_plane (F := F) d M a 7 (by decide) rfl) $$ [Hs]; · iexact Hs
  iintro Hs
  sl_step
  isplitr; · ipureintro; rfl
  iexact Hs

set_option maxHeartbeats 4000000 in
/-- The third part: planes 7 to 11 stored. -/
theorem wp_part6 (i : grid1.Coords) (m2 : Memref sig .tc .smem S8 .f32) (h2 : m2.IsWhole) (m3 : Memref sig .tc .vmem S1x64x56x56 .f32) (h3 : m3.IsWhole)
    (m4 : Memref sig .tc .vmem S13x8x56 .f32) (h4 : m4.IsWhole) (h5 : (sV).IsWhole) (M : Vec F S13x8x56 .f32) (a : TAcc F) :
    scr (F := F) d (bumpTo M a 7)
      ⊢ wp frame (wpE (defs₀ (F := F)) 𝒱₀ (T d) none) Set.univ
          (k1_part6 i m2 h2 m3 h3 m4 h4 sV h5 (a.get 8) (a.get 9) (a.get 10) (a.get 11) (k1_pay44 (a.get 7) (plane M ⟨7, by decide⟩))) fun _ =>
          scr (F := F) d (bumpTo M a 12) := by
  iintro Hs
  simp only [k1_part6_eq_skeleton]; unfold k1_part6_skel
  simp only [Prog.lift, Prog.bind_op, Prog.bind_ret, Prog.pure_eq_ret, Prog.bind_assoc]
  iapply (wp_load_plane (F := F) d M a 7 (by decide) rfl) $$ [Hs]; · iexact Hs
  iintro Hs
  iapply (wp_store_plane (F := F) d M a 7 (by decide) rfl rfl) $$ [Hs]; · iexact Hs
  iintro Hs
  iapply (wp_plane (F := F) d M a 8 (by decide) rfl (fun _ => rfl)) $$ [Hs]; · iexact Hs
  iintro Hs
  iapply (wp_plane (F := F) d M a 9 (by decide) rfl (fun _ => rfl)) $$ [Hs]; · iexact Hs
  iintro Hs
  iapply (wp_plane (F := F) d M a 10 (by decide) rfl (fun _ => rfl)) $$ [Hs]; · iexact Hs
  iintro Hs
  iapply (wp_plane (F := F) d M a 11 (by decide) rfl (fun _ => rfl)) $$ [Hs]; · iexact Hs
  iintro Hs
  sl_step
  iexact Hs

set_option maxHeartbeats 4000000 in
/-- The body at a grid point. -/
theorem tc_body (i : grid1.Coords) (m2 : Memref sig .tc .smem S8 .f32) (h2 : m2.IsWhole) (m3 : Memref sig .tc .vmem S1x64x56x56 .f32) (h3 : m3.IsWhole)
    (m4 : Memref sig .tc .vmem S13x8x56 .f32) (h4 : m4.IsWhole) (h5 : (sV).IsWhole)
    (X2 : Vec F S8 .f32) (X3 : Vec F S1x64x56x56 .f32) (X4 M : Vec F S13x8x56 .f32) :
    iprop(owns (T d) m2 fullShare X2 ∗ owns (T d) m3 fullShare X3 ∗ owns (T d) m4 fullShare X4 ∗ scr (F := F) d M)
      ⊢ wp frame (wpE (defs₀ (F := F)) 𝒱₀ (T d) none) Set.univ (cc1__tc_body i m2 h2 m3 h3 m4 h4 sV h5) fun _ =>
          iprop(owns (T d) m2 fullShare X2 ∗ owns (T d) m3 fullShare X3
            ∗ owns (T d) m4 fullShare (if k1_cond2 i = 1#1 then tcStep i X2 X3 M else X4) ∗ scr (F := F) d (tcStep i X2 X3 M)) := by
  iintro ⟨H2, H3, H4, Hs⟩
  simp only [cc1__tc_body_eq_skeleton]; unfold cc1__tc_body_skel
  dsimp only
  let a : TAcc F := tFold (alphaOf X2) X3 64
  rw [wp_bind]
  iapply (wp_wand frame (wpE (defs₀ (F := F)) 𝒱₀ (T d) none) Set.univ) $$ [H2 H3 Hs]
  · iapply (wp_part4 (F := F) d i m2 h2 m3 h3 m4 h4 h5 X2 X3 M a rfl)
    isplitl [H2]; · iexact H2
    isplitl [H3]; · iexact H3
    iexact Hs
  iintro %r ⟨%hr, H2, H3, Hs⟩
  subst hr
  dsimp only
  rw [wp_bind]
  iapply (wp_wand frame (wpE (defs₀ (F := F)) 𝒱₀ (T d) none) Set.univ) $$ [Hs]
  · iapply (wp_part5 (F := F) d i m2 h2 m3 h3 m4 h4 h5 (cleared i M) a); iexact Hs
  iintro %r ⟨%hr, Hs⟩
  subst hr
  rw [wp_bind]
  iapply (wp_wand frame (wpE (defs₀ (F := F)) 𝒱₀ (T d) none) Set.univ) $$ [Hs]
  · iapply (wp_part6 (F := F) d i m2 h2 m3 h3 m4 h4 h5 (cleared i M) a); iexact Hs
  iintro %_ Hs
  simp only [Prog.lift, Prog.bind_op, Prog.bind_ret, Prog.pure_eq_ret, Prog.bind_assoc]
  iapply (wp_plane (F := F) d (cleared i M) a 12 (by decide) rfl (fun _ => rfl)) $$ [Hs]; · iexact Hs
  iintro Hs
  rw [show bumpTo (cleared i M) a (12 + 1) = tcStep i X2 X3 M from bumpTo_all _ _]
  by_cases hc : k1_cond2 i = 1#1
  · rw [dif_pos hc, if_pos hc]
    ihave Hs := (show scr (F := F) d (tcStep i X2 X3 M) ⊢ ((sV).view.loc (T d) ↦[(sV).view.set]{fullShare} (tcStep i X2 X3 M) : sProp 𝕄) from BIBase.Entails.rfl) $$ Hs
    ihave H4 := (show (owns (T d) m4 fullShare X4 : sProp 𝕄) ⊢ iprop(∃ f, ⌜m4.view.read (Elt F) f = X4⌝ ∗ (m4.view.loc (T d) ↦[m4.view.set]{fullShare} f)) from BIBase.Entails.rfl) $$ H4
    icases H4 with ⟨%f4, %hf4, H4⟩
    sl_step
    sl_step
    sl_step
    sl_step
    isplitl [H2]; · iexact H2
    isplitl [H3]; · iexact H3
    isplitl [H4]
    · unfold owns; iexists _; isplitr
      swap; · iexact H4
      ipureintro
      exact (store_all m4 f4 _).trans (load_all sV _)
    unfold scr; iexact Hs
  · rw [dif_neg hc, if_neg hc]
    sl_step
    isplitl [H2]; · iexact H2
    isplitl [H3]; · iexact H3
    isplitl [H4]; · iexact H4
    iexact Hs

end Cert.Proof.Quant
-- ==== Proof.TcRegion.lean ====
/-
  The TensorCore call as a region of the program: what its pipeline holds at each of the 240 grid points, the body's
  obligation there, and the region from the host's arrays to the host's arrays, the thirteen planes of partial sums in
  the result.
-/
module

public import proofs.«01_k».proof.Proof.TcBody
public import proofs.«01_k».proof.Proof.Gen.KernelIdeal.Points
public import proofs.«01_k».proof.Proof.Gen.KernelIdeal.Launch
public import Idealize.ShloMosaic.Lib.Pipeline.Regions
public import Idealize.ShloMosaic.Lib.Pipeline.RegionsLoop
public import Idealize.ShloMosaic.Lib.Pipeline.FrameBody

@[expose] public section

noncomputable section

namespace Cert.Proof.Quant

open Cert.KernelIdeal Cert.KernelIdeal.Gen

open Idealize.ShloMosaic hiding T
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Contents of every array of the TensorCore's program. -/
abbrev TcVal (F : FTy → Type) : Type := (c : Dev nD) → (b : Ref sig .tc) → Buf (Elt F) ((c : Thread nD τ).loc b)

variable (Vv : TcVal F)

/-- The blocks of the step and of the activations that a grid point reads. -/
def blkA (c : Dev nD) (t : Fin cfg1.N) : Vec F S8 .f32 := ((cfg1.win 0).blk t).view.read (Elt F) (Vv c main_v4)
def blkX (c : Dev nD) (t : Fin cfg1.N) : Vec F S1x64x56x56 .f32 := ((cfg1.win 1).blk t).view.read (Elt F) (Vv c main_arg0)

/-- The scratch before grid point `n`. -/
def tcAt (c : Dev nD) : ℕ → Vec F S13x8x56 .f32
  | 0 => k1_pay30
  | n + 1 => if h : n < cfg1.N then tcStep (grid1.coords ⟨n, h⟩) (blkA Vv c ⟨n, h⟩) (blkX Vv c ⟨n, h⟩) (tcAt c n) else tcAt c n

theorem tcAt_succ (c : Dev nD) (t : Fin cfg1.N) :
    tcAt Vv c (t.val + 1) = tcStep (grid1.coords t) (blkA Vv c t) (blkX Vv c t) (tcAt Vv c t.val) := by
  rw [tcAt, dif_pos t.isLt]

theorem first_point : ∀ t : Fin grid1.N, t.val = 0 → atFirst (grid1.coords t) = 1#1 := by decide +kernel

theorem last_point : ∀ t : Fin grid1.N, k1_cond2 (grid1.coords t) = 1#1 ↔ t.val = 239 := by decide +kernel

/-- At the first point the scratch's earlier contents do not matter. -/
theorem tcStep_first (c : Dev nD) (t : Fin cfg1.N) (f : Vec F S13x8x56 .f32) (hf : t.val ≠ 0 → f = tcAt Vv c t.val) :
    tcStep (grid1.coords t) (blkA Vv c t) (blkX Vv c t) f = tcAt Vv c (t.val + 1) := by
  rw [tcAt_succ]
  by_cases h : t.val = 0
  · unfold tcStep cleared
    rw [if_pos (first_point t h), if_pos (first_point t h)]
  · rw [← hf h]

/-- The recorded waits of the TensorCore after the SparseCore call: none above that call's. -/
abbrev low (c : Dev nD) : Set (SemLoc sig × HIx 1) := {p | (K (F := F)).lev ((T c : Thread nD τ), p.1) p.2 ≤ 8}

/-- The pipeline's contents at each point. -/
def dat (c : Dev nD) : Dat τ (Elt F) (HIx 1) ℕ UU ℕ cfg1 c where
  A w := Vv c (Pipeline.arrRef spec1 w)
  after w t := match w with
    | ⟨0, _⟩ => blkA Vv c t
    | ⟨1, _⟩ => blkX Vv c t
    | ⟨2, _⟩ => tcAt Vv c (t.val + 1)
  Φ t := iprop(∃ f, ⌜t.val ≠ 0 → f = tcAt Vv c t.val⌝ ∗ scr (F := F) c f)
  q _ := fullShare
  owed _ := 0
  recorded _ := low (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat Vv c

theorem before_0 (c : Dev nD) (t : Fin cfg1.N) (d : (cfg1.win 0).block.Idx → Elt F (cfg1.win 0).elt) : (dat Vv c).before 0 t d = blkA Vv c t :=
  ((dat Vv c).before_in_eq_fetched 0 rfl (fun _ => rfl) (fun _ _ _ => rfl) (fun _ => by dsimp only [dat]; rfl) t d).trans rfl

theorem before_1 (c : Dev nD) (t : Fin cfg1.N) (d : (cfg1.win 1).block.Idx → Elt F (cfg1.win 1).elt) : (dat Vv c).before 1 t d = blkX Vv c t :=
  ((dat Vv c).before_in_eq_fetched 1 rfl (fun _ => rfl) (fun _ _ _ => rfl) (fun _ => by dsimp only [dat]; rfl) t d).trans rfl

set_option maxHeartbeats 1000000 in
theorem body_obligation (c : Dev nD) : BodyObligation (dat Vv c) (defs₀ (F := F)) 𝒱₀ (none : HIx 1) Set.univ := fun t => by
  rw [bigSep_W1, bigSep_W1]
  dsimp only
  rw [show (dat Vv c).Φ t.castSucc = iprop(∃ f, ⌜t.val ≠ 0 → f = tcAt Vv c t.val⌝ ∗ scr (F := F) c f) from rfl,
    show (dat Vv c).Φ t.succ = iprop(∃ f, ⌜t.val + 1 ≠ 0 → f = tcAt Vv c (t.val + 1)⌝ ∗ scr (F := F) c f) from rfl,
    show (dat Vv c).owesAt none t.succ = (dat Vv c).owesAt none t.castSucc from rfl,
    show (dat Vv c).after 0 t = blkA Vv c t from rfl, show (dat Vv c).after 1 t = blkX Vv c t from rfl,
    show (dat Vv c).after 2 t = tcAt Vv c (t.val + 1) from rfl]
  simp only [before_0, before_1]
  iintro ⟨HΦ, Howes, ⟨%d0, H0⟩, ⟨%d1, H1⟩, ⟨%d2, H2⟩⟩
  icases HΦ with ⟨%f, %hf, Hs⟩
  iapply (wp_wand frame (wpE (defs₀ (F := F)) 𝒱₀ (T c) none) Set.univ) $$ [H0 H1 H2 Hs]
  · iapply (tc_body (F := F) c (grid1.coords t) (stage1_0 (cfg1.slots t 0)) (hstage1_0 ((cfg1.slots t 0).cast nbuf1_0)) (stage1_1 (cfg1.slots t 1))
      (hstage1_1 ((cfg1.slots t 1).cast nbuf1_1)) (stage1_2 (cfg1.slots t 2)) (hstage1_2 ((cfg1.slots t 2).cast nbuf1_2)) (Memref.isWhole_whole _)
      (blkA Vv c t) (blkX Vv c t) ((dat Vv c).before 2 t d2) f)
    isplitl [H0]; · iexact H0
    isplitl [H1]; · iexact H1
    isplitl [H2]; · iexact H2
    iexact Hs
  iintro %_ ⟨H0, H1, H2, Hs⟩
  rw [tcStep_first Vv c t f hf]
  isplitl [Hs]
  · iexists _; isplitr
    swap; · iexact Hs
    ipureintro; exact fun _ => rfl
  isplitl [Howes]; · iexact Howes
  isplitl [H0]; · iexact H0
  isplitl [H1]; · iexact H1
  by_cases hc : k1_cond2 (grid1.coords t) = 1#1
  · rw [if_pos hc, show idle1 2 (grid1.coords t) = false by show (!(k1_cond2 (grid1.coords t) == 1#1)) = false; rw [hc]; rfl]
    iexact H2
  · have hfl : (win1 2).flush t = false := by
      rw [Bool.eq_false_iff]
      intro h
      have h1 := (flush1_2 t).mp h
      have h2 : t.val < 240 := t.isLt
      exact hc ((last_point t).mpr (by omega))
    rw [if_neg hc, show idle1 2 (grid1.coords t) = true by
      show (!(k1_cond2 (grid1.coords t) == 1#1)) = true; rw [beq_false_of_ne hc]; rfl, hfl]
    iexists d2
    iexact H2

/-- The result's array after the call. -/
def tcOut (c : Dev nD) : Buf (Elt F) ((c : Thread nD τ).loc main_v5) := (dat Vv c).arrAt 2 cfg1.N

variable (Vp : TcVal F)

set_option backward.isDefEq.respectTransparency.types false in
/-- The call as a region, from the arrays at `Vv` to the arrays at `Vp`, which is `Vv` with the result's planes. -/
def reg (R : Dev nD → sProp 𝕄) (L : GSem nD τ sig → Finset (HIx 1)) (lv : GSem nD τ sig → HIx 1 → ℕ) (hout : ∀ c, Vp c main_v5 = tcOut Vv c)
    (hne : ∀ c (b : Ref sig .tc), b ≠ main_v5 → Vp c b = Vv c b) :
    Pipeline.RegionSeg (pcfgs (F := F)) adm (pdats Vv adm) (none : HIx 1) defs₀ 𝒱₀ L lv 0 where
  win := launch1.win.to₀
  block_pos := launch1.block_pos
  stage_whole := launch1.stage_whole
  K := PEmpty
  osem k := k.elim
  ho := Pipeline.OwnSemFacts.none _
  hbody c := (body_obligation Vv c).loose
  hwaits := Pipeline.hwaits_of_owed_zero _ _ _ _ L lv 0 fun _ _ => rfl
  pre c := iprop(unscopedBufs c (Vv c) ∗ R c ∗ ∃ W, ⌜(K (F := F)).WBelow (T c) W 8⌝ ∗ owes (c : Thread nD τ) (0 : CellTallies nD τ sig (HIx 1)) W)
  post c := iprop(unscopedBufs c (Vp c) ∗ R c ∗ ∃ W, ⌜(K (F := F)).WBelow (T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (Vv c) ∗ R c)
  hentry c := by
    rw [Pipeline.ownSems0_none]
    have hsplit := Pipeline.arrays_of_unscopedBufs (p := 0) (pcfgs (F := F)) adm (pdats Vv adm) launch1.win launch1.arr_whole c
      ((pdats Vv adm 0 c).share_full fun _ => rfl) (Vv c) fun _ => rfl
    iintro ⟨⟨Hub, HR, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats Vv adm 0 c).Φ 0 = iprop(∃ f, ⌜(0 : ℕ) ≠ 0 → f = tcAt Vv c 0⌝ ∗ scr (F := F) c f) from rfl]
    iintro ⟨-, -, Hr⟩
    ihave Hr := (show (Pipeline.scopedRest (Ix := HIx 1) (Name := ℕ) (U := UU) (Lvl := ℕ) (Val := Elt F) spec1 c : sProp 𝕄)
        ⊢ iprop(∃ f : Buf (Elt F) ((c : Thread nD τ).loc cc1_scratch0), ((c : Thread nD τ).loc cc1_scratch0) ↦{fullShare} f) from
      by rw [scopedRest1_eq]) $$ Hr
    icases Hr with ⟨%f, Hr⟩
    iexists f; isplitr
    · ipureintro; exact fun h => absurd rfl h
    simp only [scr_eq]; iexact Hr
  hout c := by
    rw [Pipeline.ownSems0_none, show (pdats Vv adm 0 c).Φ (Fin.last _) = iprop(∃ f, ⌜(240 : ℕ) ≠ 0 → f = tcAt Vv c 240⌝ ∗ scr (F := F) c f) from rfl]
    simp only [scr_eq]
    iintro ⟨%f, -, Hr⟩
    isplitr; · iempintro
    isplitr; · iempintro
    iapply (show iprop(∃ f : Buf (Elt F) ((c : Thread nD τ).loc cc1_scratch0), ((c : Thread nD τ).loc cc1_scratch0) ↦{fullShare} f)
        ⊢ (Pipeline.scopedRest (Ix := HIx 1) (Name := ℕ) (U := UU) (Lvl := ℕ) (Val := Elt F) spec1 c : sProp 𝕄) from
      by rw [scopedRest1_eq])
    iexists f; iexact Hr
  hexit c := by
    have hjoin := Pipeline.unscopedBufs_of_arrays (p := 0) (pcfgs (F := F)) adm (Ix := HIx 1) (Name := ℕ) (U := UU) (Lvl := ℕ) launch1.win launch1.arr_whole c
      (pdats Vv adm) ((pdats Vv adm 0 c).share_full fun _ => rfl) (Vv c) (Vp c) ((pdats Vv adm 0 c).arrAt · cfg1.N)
      (fun w => by
        fin_cases w
        · exact ((pdats Vv adm 0 c).arrAt_in 0 rfl _).trans (hne c main_v4 (by decide)).symm
        · exact ((pdats Vv adm 0 c).arrAt_in 1 rfl _).trans (hne c main_arg0 (by decide)).symm
        · exact (hout c).symm)
      (fun b hb => hne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Quant
-- ==== Proof.Main.lean ====
/-
  The whole program's run: the host's lines, the SparseCore call, a line, the TensorCore call, the remaining lines; every
  array of the host at its value at the end, the arguments unchanged, every semaphore at zero.
-/
module

public import proofs.«01_k».proof.Proof.Host
public import proofs.«01_k».proof.Proof.ScCall
public import proofs.«01_k».proof.Proof.TcRegion
public import Idealize.ShloMosaic.Lib.SparseCore.Quiescent

@[expose] public section

noncomputable section

namespace Cert.Proof.Quant

open Cert.KernelIdeal Cert.KernelIdeal.Gen

open Idealize.ShloMosaic hiding T
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held tcRefs launchContents wp_seq held_sub_split held_congr)
open Idealize.ShloMosaic.Pipeline (ucRefs unscopedBufs_held sub_ucRefs)

variable {F : FTy → Type} [FloatOps F]

local notation "𝕄" => MT nD τ sig (HIx 1) (Elt F) ℕ UU ℕ

/-- The pipeline's rounds among the ghost state. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-- No table is prefetched. -/
abbrev adm0 : (p : Fin 1) → (pcfgs (F := F) p).Adm := fun p => (cfgs p).toPCfg_adm

/-! ## The host's arrays along the program -/

variable (m : (ℓ : Loc nD τ sig) → Buf (Elt F) ℓ) (ρ : Dev nD → PrngReg)

/-- A buffer of the host, as a reference of the device. -/
abbrev hr (b : Ref sig .tc) : DevRef τ sig := Proc.devRef .tc b

/-- What the host's arrays hold when the SparseCore call starts, -/
def val1 (d : Dev nD) : Valuation τ sig (Elt F) := after preOps (launchContents m d)
/-- what that call reads, -/
abbrev stepV (d : Dev nD) : Vec F S16 .f32 := val1 m d (hr main_v2)
abbrev flatV (d : Dev nD) : Vec F S3211264 .f32 := val1 m d (hr main_v1)
/-- what they hold once it is done, -/
def val2 (d : Dev nD) : Valuation τ sig (Elt F) := Function.update (val1 m d) (hr main_v3) (rowsOut (stepV m d) (flatV m d) : Vec F S32x208 .f32)
/-- when the TensorCore call starts, -/
def val3 (d : Dev nD) : Valuation τ sig (Elt F) := after midOps (val2 m d)
abbrev tcVal : TcVal F := fun c b => val3 m c (hr b)
/-- once that is done, -/
def val4 (d : Dev nD) : Valuation τ sig (Elt F) := Function.update (val3 m d) (hr main_v5) (tcOut (tcVal m) d)
/-- and at the end. -/
def val5 (d : Dev nD) : Valuation τ sig (Elt F) := after tailOps (val4 m d)

/-! ## The SparseCore call's arrays among the host's -/

/-- The three arrays of the SparseCore call. -/
abbrev scRefs : Finset (DevRef τ sig) := {hr main_v1, hr main_v2, hr main_v3}

theorem scRefs_sub : scRefs ⊆ ucRefs τ sig := by decide

theorem held_scRefs (d : Dev nD) (W : Valuation τ sig (Elt F)) :
    (held (T d) scRefs W : sProp 𝕄) = iprop((xLoc d ↦{fullShare} W (hr main_v1)) ∗ (aLoc d ↦{fullShare} W (hr main_v2)) ∗ oLoc d ↦{fullShare} W (hr main_v3)) := by
  unfold held
  rw [SparseCore.bigSep_insert' (by decide), SparseCore.bigSep_insert' (by decide), bigSep_singleton]

/-- The arrays of the call, and the rest of the host's. -/
theorem take_sc (d : Dev nD) (W : Valuation τ sig (Elt F)) :
    (held (T d) (ucRefs τ sig) W : sProp 𝕄)
      = iprop(((xLoc d ↦{fullShare} W (hr main_v1)) ∗ (aLoc d ↦{fullShare} W (hr main_v2)) ∗ oLoc d ↦{fullShare} W (hr main_v3))
          ∗ held (T d) (ucRefs τ sig \ scRefs) W) := by
  rw [held_sub_split (c := T d) scRefs_sub W, held_scRefs]

theorem val2_v3 (d : Dev nD) : val2 m d (hr main_v3) = (rowsOut (stepV m d) (flatV m d) : Vec F S32x208 .f32) := by
  unfold val2; exact Function.update_self ..

theorem val2_ne (d : Dev nD) (b : DevRef τ sig) (h : b ≠ hr main_v3) : val2 m d b = val1 m d b := by
  unfold val2; exact Function.update_of_ne h ..

theorem put_sc (d : Dev nD) :
    iprop(((xLoc d ↦{fullShare} flatV m d) ∗ (aLoc d ↦{fullShare} stepV m d) ∗ oLoc d ↦{fullShare} rowsOut (stepV m d) (flatV m d))
          ∗ held (T d) (ucRefs τ sig \ scRefs) (val1 m d))
      ⊢ (held (T d) (ucRefs τ sig) (val2 m d) : sProp 𝕄) := by
  rw [take_sc, val2_v3, val2_ne m d (hr main_v1) (by decide), val2_ne m d (hr main_v2) (by decide),
    held_congr (c := T d) (V := val2 m d) (V' := val1 m d) fun b hb => val2_ne m d b fun h => (Finset.mem_sdiff.mp hb).2 (h ▸ by decide)]

theorem val4_v5 (d : Dev nD) : val4 m d (hr main_v5) = tcOut (tcVal m) d := by
  unfold val4; exact Function.update_self ..

theorem val4_ne (d : Dev nD) (b : Ref sig .tc) (h : b ≠ main_v5) : val4 m d (hr b) = val3 m d (hr b) := by
  unfold val4; exact Function.update_of_ne (StableHlo.devRef_ne_of_ne h) ..

/-! ## The launch element -/

omit [FloatOps F] in
theorem bigSep_emp {I : Type} (s : Finset I) : (bigSep s fun _ => iprop(emp)) = (iprop(emp) : sProp 𝕄) := bigSep_emp_const s

/-- What the pipelines of a device start from. -/
abbrev Gp (d : Dev nD) : sProp 𝕄 :=
  iprop(Pipeline.cellsGhost (Pipeline.pin (pcfgs (F := F)) adm0) EP 0 d ∗ Pipeline.toksInit (Pipeline.pin (pcfgs (F := F)) adm0) EP 0 d)

/-- The launch's element: the handshakes' and the pipeline's. -/
def u₀ : UU := (initOf (K (F := F)).hsCells (K (F := F)).hsToks,
  (initOf (Pipeline.cells (Pipeline.pin (pcfgs (F := F)) adm0) cellOf_inj) (Pipeline.launchToks (Pipeline.pin (pcfgs (F := F)) adm0) cellOf_inj), 1))

/-- What the handshakes of the one call carry. -/
abbrev PP : (K (F := F)).Pay (nD := nD) (Val := Elt F) (Name := ℕ) (U := UU) := P (stepV m) (flatV m)

theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄) _ (1 : Counters)) $$ HR
  icases H with ⟨HP, -⟩
  ihave HP := (show (BI.own (((Emb.inl : Emb UP (UP × Counters)).trans (embR : Emb (UP × Counters) 𝕄))
      (initOf (Pipeline.cells (Pipeline.pin (pcfgs (F := F)) adm0) cellOf_inj) (Pipeline.launchToks (Pipeline.pin (pcfgs (F := F)) adm0) cellOf_inj))) : sProp 𝕄)
    ⊢ BI.own (EP (F := F) (initOf (Pipeline.cells (Pipeline.pin (pcfgs (F := F)) adm0) cellOf_inj) (Pipeline.launchToks (Pipeline.pin (pcfgs (F := F)) adm0) cellOf_inj)))
    from BIBase.Entails.rfl) $$ HP
  imod (Pipeline.fund_ghost (Pipeline.pin (pcfgs (F := F)) adm0) (EP (F := F)) cellOf_inj) $$ HP with ⟨Hg, Ht⟩
  imodintro
  isplitl [HH]; · iexact HH
  isplitl [Hg Ht]
  · rw [bigSep_sep']
    ihave Hg := (show (bigSep Finset.univ fun d : Dev nD => bigSep Finset.univ fun p => Pipeline.cellsGhost (Pipeline.pin (pcfgs (F := F)) adm0) EP p d : sProp 𝕄)
        ⊢ bigSep Finset.univ fun d : Dev nD => Pipeline.cellsGhost (Pipeline.pin (pcfgs (F := F)) adm0) EP 0 d from
      Entails.of_eq (bigSep_congr fun _ _ => bigSep_univ_of_subsingleton (0 : Fin 1))) $$ Hg
    ihave Ht := (show (bigSep Finset.univ fun d : Dev nD => bigSep Finset.univ fun p => Pipeline.toksInit (Pipeline.pin (pcfgs (F := F)) adm0) EP p d : sProp 𝕄)
        ⊢ bigSep Finset.univ fun d : Dev nD => Pipeline.toksInit (Pipeline.pin (pcfgs (F := F)) adm0) EP 0 d from
      Entails.of_eq (bigSep_congr fun _ _ => bigSep_univ_of_subsingleton (0 : Fin 1))) $$ Ht
    isplitl [Hg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp]
  iempintro

/-! ## The run of the host -/

/-- What the host holds at the end. -/
abbrev FIN (d : Dev nD) : sProp 𝕄 := held (T d) (ucRefs τ sig) (val5 m d)

/-- The TensorCore call, from the host's arrays before it to the host's arrays after it. -/
abbrev theReg : Pipeline.RegionSeg (pcfgs (F := F)) adm0 (pdats (tcVal m) adm0) (none : HIx 1) defs₀ 𝒱₀ (K (F := F)).L (K (F := F)).lev 0 :=
  reg (tcVal m) adm0 (fun c b => val4 m c (hr b)) (fun _ => iprop(emp)) (K (F := F)).L (K (F := F)).lev (fun c => val4_v5 m c) (fun c b h => val4_ne m c b h)

/-- The host's arrays at `W`, and no debt. -/
abbrev callSt (d : Dev nD) (W : Valuation τ sig (Elt F)) : sProp 𝕄 :=
  iprop(unscopedBufs d (fun b => W (hr b)) ∗ emp ∗ ∃ W, ⌜(K (F := F)).WBelow (T d) W 8⌝ ∗ owes (T d) (0 : CellTallies nD τ sig (HIx 1)) W)

theorem wp_call [∀ e, Nonempty (Elt F e)] (d : Dev nD) :
    iprop(boundary (T d) ∗ callSt d (val3 m d) ∗ levAts (K (F := F)).L (K (F := F)).lev ∗ Gp (F := F) d)
      ⊢ wp frame (wpE (D (F := F)) 𝒱 (T d) none) Set.univ (Prog.lift (.customCall (Pipeline.entry 0) ()))
          fun _ => iprop(boundary (T d) ∗ callSt d (val4 m d)) := by
  have h := Pipeline.RegionSeg.wp (pcfgs (F := F)) adm0 (pdats (tcVal m) adm0) (none : HIx 1) cellOf_inj EP defs₀ 𝒱₀ (K (F := F)).L (K (F := F)).lev
      (theReg (F := F) m) d none (fun _ h => absurd h (Option.not_mem_none _)) (fun _ => .ret PUnit.unit)
      (fun _ => iprop(boundary (T d) ∗ (theReg (F := F) m).post d))
  refine BIBase.Entails.trans ?_ h
  iintro ⟨Hb, Hp, Hl, Hg, Ht⟩
  isplitr
  · iintro H; rw [wp_ret]; imodintro; iexact H
  isplitl [Hb]; · iexact Hb
  isplitl [Hp]
  · iapply (show callSt d (val3 m d) ⊢ (theReg (F := F) m).pre d from BIBase.Entails.rfl); iexact Hp
  isplitl [Hl]; · iexact Hl
  isplitl [Hg] <;> iassumption

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ Gp (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((T d).loc b)) : sProp 𝕄) = held (T d) (ucRefs τ sig) (launchContents m d) from
    unscopedBufs_held d (launchContents m d)]
  iintro ⟨#Hctx, Hst, ⟨Hb, Hh, Hts, -⟩, Hg, Htk⟩
  iapply (wp_seq 𝒱 none Set.univ d (ucRefs τ sig) _ preOps (fun op h => sub_ucRefs op (List.forall_iff_forall_mem.mp preOps_sub op h))
    (fun op h => List.forall_iff_forall_mem.mp preOps_fresh op h) (launchContents m d)) $$ [Hb Hh]
  · isplitl [Hb] <;> iassumption
  iintro ⟨Hb, Hh⟩
  ihave H := (show (held d.tc (ucRefs τ sig) (after preOps (launchContents m d)) : sProp 𝕄) ⊢ _ from Entails.of_eq (take_sc (F := F) d (val1 m d))) $$ Hh
  icases H with ⟨Hsc, Hh⟩
  ihave H := (deal (F := F) (stepV m) (flatV m) d (val1 m d (hr main_v3))) $$ Hsc
  icases H with ⟨Hgo, Hdx, Hda⟩
  rw [wp_bind]
  iapply ((K (F := F)).wp_run (D (F := F)) 𝒱 (EH := EH) (P := PP m) κ d 0) $$ [Hst Hgo Hdx Hda Hh Hb Hts Hg Htk]
  isplitr; · iexact Hctx
  isplitl [Hst]; · iexact Hst
  isplitl [Hgo]; · iexact Hgo
  iintro ⟨Hst, Hdn⟩
  ihave H := (gather (F := F) (stepV m) (flatV m) d) $$ [Hdn Hdx Hda]
  · isplitl [Hdn]; · iexact Hdn
    isplitl [Hdx] <;> iassumption
  ihave Hh := (put_sc m d) $$ [H Hh]
  · isplitl [H] <;> iassumption
  iapply (wp_seq 𝒱 none Set.univ d (ucRefs τ sig) _ midOps (fun op h => sub_ucRefs op (List.forall_iff_forall_mem.mp midOps_sub op h))
    (fun op h => List.forall_iff_forall_mem.mp midOps_fresh op h) (val2 m d)) $$ [Hb Hh]
  · isplitl [Hb] <;> iassumption
  iintro ⟨Hb, Hh⟩
  ihave Hlev := (SparseCore.Cfg.ctx_levAts κ) $$ Hctx
  unfold SparseCore.Cfg.tcSt
  icases Hst with ⟨⟨%W, %hW, HO⟩, Hrest⟩
  rw [wp_bind]
  iapply (wp_wand frame (wpE ((K (F := F)).defs (D (F := F))) 𝒱 (T d) none) Set.univ
    (Q := fun _ => iprop(boundary (T d) ∗ callSt d (val4 m d)))) $$ [Hb Hh HO Hlev Hg Htk]
  · iapply ((K (F := F)).wp_liftProg (D (F := F)) 𝒱 (T d) Set.univ none (Prog.lift (.customCall (Pipeline.entry 0) ())) _)
    iapply (wp_call m d)
    isplitl [Hb]; · iexact Hb
    isplitl [Hh HO]
    · isplitl [Hh]
      · iapply (Entails.of_eq (unscopedBufs_held d (val3 m d)).symm); iexact Hh
      isplitr; · iempintro
      iexists W; isplitr
      · ipureintro; exact hW
      iapply (Entails.of_eq (congrArg (fun O => owes (T d) O W) ((K (F := F)).Otc_end d (n := 0 + 1) le_rfl))); iexact HO
    isplitl [Hlev]; · iexact Hlev
    isplitl [Hg] <;> iassumption
  iintro %_ ⟨Hb, Hh, -, %W', %hW', HO⟩
  ihave Hh := (Entails.of_eq (unscopedBufs_held d (val4 m d))) $$ Hh
  rw [← bind_pure (seq tailOps)]
  iapply (wp_seq 𝒱 none Set.univ d (ucRefs τ sig) _ tailOps (fun op h => sub_ucRefs op (tailOps_sub op h)) tailOps_fresh (val4 m d)) $$ [Hb Hh]
  · isplitl [Hb] <;> iassumption
  iintro ⟨Hb, Hh⟩
  rw [wp_pure]; imodintro
  isplitl [HO Hrest]
  · isplitl [HO]
    · iexists W'; isplitr
      · ipureintro; exact hW'
      rw [(K (F := F)).Otc_end d (n := 1) le_rfl]; iexact HO
    iexact Hrest
  isplitl [Hh]; · iexact Hh
  isplitl [Hb] <;> iassumption

/-! ## The program's run -/

def fq (d : Dev nD) (s' : Phys nD τ sig (Elt F)) : Prop := ∀ b ∈ ucRefs τ sig, s'.mem.mem (d, b) = val5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro; exact h

/-- From any memory with zero counters: every execution ends, with every array of the host at its value `val5` and every
    counter at zero. -/
theorem run_main [∀ e, Nonempty (Elt F e)] :
    θ_run (Cert.KernelIdeal.defs (F := F)) (Cert.KernelIdeal.threads (F := F)) ⟨m, fun _ => 0, ρ⟩
      fun r => (∀ (c : Dev nD), ∀ b ∈ ucRefs τ sig, r.2.mem (c, b) = val5 m c b) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (stepV m) (flatV m) facts)
    (fun q _ => match q with | 0 => SparseCore.Cfg.VecSplit.of_plain (vecSplit (stepV m) (flatV m)))
    m ρ main (Gp (F := F)) (FIN m) (u₀ (F := F)) (sep_elim_left.trans (hu₀ m)) (hmain m ρ) (fq m) (hfin m) _ (fun _ h hz => ⟨h, hz⟩)

end Cert.Proof.Quant
-- ==== Proof.Args.lean ====
/-
  The arguments at the end of the program, and its frames.
-/
module

public import proofs.«01_k».proof.Defs
public import proofs.«01_k».proof.Proof.Main

@[expose] public section

noncomputable section

namespace Cert.Proof.Quant

open Cert.KernelIdeal Cert.KernelIdeal.Gen

open Idealize.ShloMosaic hiding T
open Idealize.ShloMosaic.TcCoe
open Idealize.ShloMosaic.SparseCore (S V T)
open Idealize.SL.Sem
open Idealize.ShloMosaic.StableHlo (after after_append after_of_writes_sub launchContents)
open Idealize.ShloMosaic.Pipeline (ucRefs)

variable {F : FTy → Type} [FloatOps F]
variable (m : (ℓ : Loc nD τ sig) → Buf (Elt F) ℓ) (ρ : Dev nD → PrngReg)

/-- What no line after the TensorCore call writes is kept through those lines. -/
theorem tail_keep (V : Valuation τ sig (Elt F)) (b : Ref sig .tc)
    (h : b ∉ sumOps_W ++ momentOps_W ++ levelOps_W ++ lossOps_W ++ errorOps_W ++ shareOps_W) : after tailOps V (hr b) = V (hr b) := by
  simp only [List.mem_append, not_or] at h
  obtain ⟨⟨⟨⟨⟨h1, h2⟩, h3⟩, h4⟩, h5⟩, h6⟩ := h
  simp only [tailOps, after_append]
  exact (after_of_writes_sub _ _ shareOps_writes h6).trans ((after_of_writes_sub _ _ errorOps_writes h5).trans ((after_of_writes_sub _ _ lossOps_writes h4).trans
    ((after_of_writes_sub _ _ levelOps_writes h3).trans ((after_of_writes_sub _ _ momentOps_writes h2).trans (after_of_writes_sub _ _ sumOps_writes h1)))))

/-- An array that no line and no call writes is at the end what it was. -/
theorem val5_keep (d : Dev nD) (b : Ref sig .tc)
    (h : b ∉ sumOps_W ++ momentOps_W ++ levelOps_W ++ lossOps_W ++ errorOps_W ++ shareOps_W) (hp : b ∉ preOps_W) (hm : b ∉ midOps_W)
    (h3 : b ≠ main_v3) (h5 : b ≠ main_v5) : val5 m d (hr b) = m ((T d).loc b) := by
  unfold val5
  rw [tail_keep _ b h, val4_ne m d b h5]
  unfold val3
  rw [after_of_writes_sub _ _ midOps_writes hm, val2_ne m d _ (StableHlo.devRef_ne_of_ne h3)]
  unfold val1
  exact after_of_writes_sub _ _ preOps_writes hp

theorem val5_arg0 (d : Dev nD) : val5 m d (hr main_arg0) = m ((T d).loc main_arg0) :=
  val5_keep m d main_arg0 (by decide) (by decide) (by decide) (by decide) (by decide)
theorem val5_arg1 (d : Dev nD) : val5 m d (hr main_arg1) = m ((T d).loc main_arg1) :=
  val5_keep m d main_arg1 (by decide) (by decide) (by decide) (by decide) (by decide)

/-- An array of the host is among those whose contents the run gives. -/
theorem mem_ucRefs (b : Ref sig .tc) (h : (hr b).isScoped = false) : hr b ∈ ucRefs τ sig :=
  Finset.mem_filter.mpr ⟨StableHlo.devRef_mem_tcRefs b, fun h' => Bool.false_ne_true (h.symm.trans h')⟩

/-- The run read at an array of the host. -/
theorem run_at [∀ e, Nonempty (Elt F e)] :
    θ_run (Cert.KernelIdeal.defs (F := F)) (Cert.KernelIdeal.threads (F := F)) ⟨m, fun _ => 0, ρ⟩
      fun r => (∀ (c : Dev nD) (b : Ref sig .tc), (hr b).isScoped = false → r.2.mem ((T c).loc b) = val5 m c (hr b)) ∧ r.2.sem = fun _ => 0 :=
  (θ_run Cert.KernelIdeal.defs _ _).mono (fun _ h => ⟨fun c b hb => h.1 c (hr b) (mem_ucRefs b hb), h.2⟩) (run_main m ρ)

/-- The run read at the arguments and the counters. -/
theorem run_args [∀ e, Nonempty (Elt F e)] :
    θ_run (Cert.KernelIdeal.defs (F := F)) (Cert.KernelIdeal.threads (F := F)) ⟨m, fun _ => 0, ρ⟩
      fun r => (∀ c : Dev nD, r.2.mem ((T c).loc main_arg0) = m ((T c).loc main_arg0) ∧ r.2.mem ((T c).loc main_arg1) = m ((T c).loc main_arg1))
        ∧ r.2.sem = fun _ => 0 :=
  (θ_run Cert.KernelIdeal.defs _ _).mono (fun _ h => ⟨fun c => ⟨(h.1 c main_arg0 rfl).trans (val5_arg0 m c), (h.1 c main_arg1 rfl).trans (val5_arg1 m c)⟩, h.2⟩)
    (run_at m ρ)

/-- The frame of the program over the reals. -/
theorem frame_kernelIdeal : Cert.quiescent_KernelIdeal := fun m ρ _ => run_args (F := Ideal) m ρ

end Cert.Proof.Quant
-- ==== Proof.Text.lean ====
/-
  The program over the words and the program over the reals are the same text, so that what is
  run of the one at any float values is a run of the other.
-/
module

public import proofs.«01_k».proof.Defs
public import proofs.«01_k».proof.Proof.Args
public import proofs.«01_k».proof.Proof.Gen.Kernel

@[expose] public section

noncomputable section

namespace Cert.Proof.Quant

open Idealize.ShloMosaic Idealize.SL.Sem

/-- Two sequences are equal when their heads and their tails are. -/
theorem bind_same {E : Type → Type} {α β : Type} {a a' : Prog E α} {k k' : α → Prog E β} (h : a = a') (h' : ∀ x, k x = k' x) :
    (a >>= k) = (a' >>= k') := by
  rw [h, funext h']

set_option maxHeartbeats 4000000

theorem bodies_same : Cert.Kernel.defs₀ (F := Bits) = Cert.KernelIdeal.defs₀ (F := Bits) := by
  funext p l a
  match p, l, a with
  | .scVector c s, 0, _ => exact rfl
  | .tc, 1, (t, s) => exact rfl
  | .scVector c s, 1, _ => exact rfl
  | .tc, 0, _ => exact rfl
  | .scScalar _, 0, _ => exact rfl
  | .scScalar _, 1, _ => exact rfl

theorem defs_same : Cert.Kernel.defs (F := Bits) = Cert.KernelIdeal.defs (F := Bits) :=
  congrArg (fun D => Cert.KernelIdeal.sc.defs (Pipeline.defs Cert.KernelIdeal.pcfgs D)) bodies_same

theorem part0_same : Cert.Kernel.main_part0 (F := Bits) = Cert.KernelIdeal.main_part0 (F := Bits) := by
  funext d
  unfold Cert.Kernel.main_part0 Cert.KernelIdeal.main_part0
  iterate 59 refine bind_same (by exact rfl) fun _ => ?_
  exact rfl

theorem part1_same : Cert.Kernel.main_part1 (F := Bits) = Cert.KernelIdeal.main_part1 (F := Bits) := by
  funext d
  unfold Cert.Kernel.main_part1 Cert.KernelIdeal.main_part1
  iterate 59 refine bind_same (by exact rfl) fun _ => ?_
  exact rfl

theorem part2_same : Cert.Kernel.main_part2 (F := Bits) = Cert.KernelIdeal.main_part2 (F := Bits) := by exact rfl

theorem main_same : Cert.Kernel.main (F := Bits) = Cert.KernelIdeal.main (F := Bits) := by
  funext d
  unfold Cert.Kernel.main Cert.KernelIdeal.main
  exact bind_same (congrFun part0_same d) fun _ => bind_same (congrFun part1_same d) fun _ => congrFun part2_same d

theorem threads_same : Cert.Kernel.threads (F := Bits) = Cert.KernelIdeal.threads (F := Bits) :=
  congrArg (fun M => Cert.KernelIdeal.sc.threads M) main_same

/-- A run of one program is a run of a program that is the same. -/
theorem run_same {nD : Nat} {τ : Topo} {sig : RefSig} {E : EltTy → Type} {L : Labels} {D D' : Defs nD τ sig E L}
    {t t' : (c : Thread nD τ) → Prog (TpuEff nD τ sig E L c.2) PUnit} (hD : D = D') (ht : t = t') {s Q} (h : θ_run D' t' s Q) : θ_run D t s Q := by
  subst hD ht
  exact h

/-- The frame of the program over the words. -/
theorem frame_kernel : Cert.quiescent_Kernel := fun m ρ _ =>
  run_same defs_same threads_same (run_args (F := Bits) m ρ)

end Cert.Proof.Quant
-- ==== Proof.RefFrame.lean ====
/-
  The frame of the reference.
-/
module

public import proofs.«01_k».proof.Defs
public import proofs.«01_k».proof.Proof.Gen.ReferenceIdeal
public import proofs.«01_k».proof.Proof.Gen.ReferenceIdeal.Run

@[expose] public section

noncomputable section

namespace Cert.Proof.Quant

open Idealize.ShloMosaic Idealize.SL.Sem

/-- The reference runs, keeps its arguments and has no counters. -/
theorem frame_referenceIdeal : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

end Cert.Proof.Quant
-- ==== Proof.Moment.lean ====
/-
  What the two kernels add to their running sums over the extended reals: moment `k` of an element `x` at step `α`.
-/
module

public import proofs.«01_k».proof.Proof.Fold
public import proofs.«01_k».proof.Proof.TcFold
public import Idealize.ShloMosaic.Lib.Pointwise
public import Idealize.ShloMosaic.PureOps.Ideal.Laws

@[expose] public section

noncomputable section

namespace Cert.Proof.Quant

open Cert.KernelIdeal Cert.KernelIdeal.Gen
open Idealize.ShloMosaic Idealize.ShloMosaic.Pointwise

/-- The number that a 32-bit float word is. -/
abbrev lit (b : BitVec 32) : EReal := Ideal.ofBits .f32 b

/-- Whether `x` is past the first, second, third cut between levels. -/
def cut1 (α x : EReal) : EReal := if α * lit 0x3F000000#32 < x then 1 else 0
def cut2 (α x : EReal) : EReal := if α * lit 0x3FC00000#32 ≤ x then 1 else 0
def cut3 (α x : EReal) : EReal := if α * lit 0x40200000#32 < x then 1 else 0

/-- The magnitude of a number. -/
def mag (v : EReal) : EReal := max v (-v)

/-- The distance of `x` from its level. -/
def dist (α x : EReal) : EReal := mag (x - α * (cut1 α x + cut2 α x + cut3 α x))

/-- The thirteen moments of an element. -/
def mom (k : ℕ) (α x : EReal) : EReal :=
  match k with
  | 0 => cut1 α x
  | 1 => cut2 α x
  | 2 => cut3 α x
  | 3 => x
  | 4 => x * cut1 α x
  | 5 => x * cut2 α x
  | 6 => x * cut3 α x
  | 7 => x * x
  | 8 => x * cut1 α x * x
  | 9 => x * cut2 α x * x
  | 10 => x * cut3 α x * x
  | 11 => dist α x
  | _ => if dist α x < α * lit 0x3C23D70A#32 then 1 else 0

/-- One step of a subcore adds the moments of the vector's elements. -/
theorem accStep_get (A x : Vec Ideal S16 .f32) (a : Acc Ideal) (k : Fin 13) (l : S16.Idx) :
    (accStep A x a).get k.val l = a.get k.val l + mom k.val (A l) (x l) := by
  obtain ⟨a0, a1, a2, a3, a4, a5, a6, a7, a8, a9, a10, a11, a12⟩ := a
  fin_cases k <;> (simp only [accStep, Acc.get, mom]; unfold_payloads; pointwise [cut1, cut2, cut3, dist]; try rfl)

/-- The sum of the seven rows of a face that lie over one another in a plane of eight rows. -/
def seven (f : ℕ → EReal) : EReal := f 0 + f 1 + f 2 + f 3 + f 4 + f 5 + f 6

/-- One face adds the moments of its elements, row `8 q + r` to row `r`. -/
theorem tStep_get (α : EReal) (f : Vec Ideal S1x1x56x56 .f32) (a : TAcc Ideal) (k : Fin 13) (r : Fin 8) (w : Fin 56) (g : ℕ → EReal)
    (hg : ∀ (n : ℕ) (h : n < 56), f (ix4 0 0 ⟨n, h⟩ w) = g n) :
    (tStep α f a).get k.val (ix2 r w) = a.get k.val (ix2 r w) + seven fun q => mom k.val α (g (8 * q + r.val)) := by
  obtain ⟨a0, a1, a2, a3, a4, a5, a6, a7, a8, a9, a10, a11, a12⟩ := a
  fin_cases k <;> (simp only [tStep, TAcc.get, mom, seven]; unfold_payloads; pointwise [cut1, cut2, cut3, dist]; simp only [hg, Nat.reduceMul, Nat.zero_add]; try rfl)

end Cert.Proof.Quant
-- ==== Proof.ScSum.lean ====
/-
  The subcores' partial sums over the extended reals: sum `k` of all rows is the sum of moment `k` over the flat array.
-/
module

public import proofs.«01_k».proof.Proof.Moment

@[expose] public section

noncomputable section

namespace Cert.Proof.Quant

open Cert.KernelIdeal Cert.KernelIdeal.Gen
open Idealize.ShloMosaic Idealize.ShloMosaic.Pointwise
open Finset

/-- A sum over `a · b` numbers, in `a` runs of `b`. -/
theorem sum_runs {M : Type*} [AddCommMonoid M] (a b : ℕ) (G : ℕ → M) :
    ∑ p ∈ range (a * b), G p = ∑ i ∈ range a, ∑ j ∈ range b, G (b * i + j) := by
  induction a with
  | zero => simp
  | succ a ih => rw [Nat.succ_mul, Finset.sum_range_add, ih, Finset.sum_range_succ, Nat.mul_comm a b]

theorem acc0_get (k : Fin 13) (l : S16.Idx) : (acc0 : Acc Ideal).get k.val l = 0 := by
  fin_cases k <;> (simp only [acc0, Acc.get]; unfold_payloads; pointwise [])

theorem accFold_get (A : Vec Ideal S16 .f32) (g : Vec Ideal S12544 .f32) (a : Acc Ideal) (k : Fin 13) (l : S16.Idx) (n : ℕ) :
    (accFold A g a n).get k.val l = a.get k.val l + ∑ t ∈ range n, mom k.val (A l) (lanes g t l) := by
  induction n with
  | zero => simp [accFold]
  | succ n ih => rw [accFold, accStep_get, ih, Finset.sum_range_succ, add_assoc]

theorem accTile_get (A : Vec Ideal S16 .f32) (X : Vec Ideal S3211264 .f32) (w : ℕ) (k : Fin 13) (l : S16.Idx) (n : ℕ) :
    (accTile A X w n).get k.val l = ∑ c ∈ range n, ∑ t ∈ range 784, mom k.val (A l) (lanes (chunk X w c) t l) := by
  induction n with
  | zero => rw [accTile, acc0_get, Finset.sum_range_zero]
  | succ n ih => rw [accTile, accChunk, accFold_get, ih, Finset.sum_range_succ _ n]

/-- Lane `l` of vector `t` of chunk `c` of subcore `w`. -/
theorem lanes_chunk (X : Vec Ideal S3211264 .f32) (Y : ℕ → EReal) (hX : ∀ (p : ℕ) (h : p < 3211264), X (ix1 ⟨p, h⟩) = Y p)
    (w c t : ℕ) (l : Fin 16) (hw : w < 32) (hc : c < 8) (ht : t < 784) :
    lanes (chunk X w c) t (ix1 l) = Y (12544 * (8 * w + c) + (16 * t + l.val)) := by
  have hl := l.isLt
  have h1 : (16 * t + l.val) % 12544 = 16 * t + l.val := Nat.mod_eq_of_lt (by omega)
  have h2 : (100352 * w + 12544 * c + (16 * t + l.val) % 12544) % 3211264 = 12544 * (8 * w + c) + (16 * t + l.val) := by
    rw [h1, Nat.mod_eq_of_lt (by omega)]; omega
  rw [← hX (12544 * (8 * w + c) + (16 * t + l.val)) (by omega)]
  refine congrArg X (funext fun i => ?_)
  match i with
  | ⟨0, _⟩ => exact Fin.ext h2

/-- What row `w` of the partial sums holds at lane `l` of sum `k`. -/
theorem rowsOut_get (A : Vec Ideal S16 .f32) (X : Vec Ideal S3211264 .f32) (w : Fin 32) (k : Fin 13) (l : Fin 16) (h : 16 * k.val + l.val < 208) :
    rowsOut A X (ix2 w ⟨16 * k.val + l.val, h⟩) = (accTile A X w.val 8).get k.val (ix1 l) := by
  have hl := l.isLt
  have h1 : (16 * k.val + l.val) / 16 = k.val := by omega
  have h2 : (16 * k.val + l.val) % 16 = l.val := by omega
  have h0 : ∀ j : S32x208.Idx, rowsOut A X j = (accTile A X (j 0).val 8).get ((j 1).val / 16) fun | 0 => ⟨(j 1).val % 16, Nat.mod_lt _ (by decide)⟩ :=
    fun _ => rfl
  rw [h0]
  simp only [ix2_0, ix2_1, h1]
  refine congrArg _ (funext fun i => ?_)
  match i with
  | ⟨0, _⟩ => exact Fin.ext h2

/-- Sum `k` of all rows and lanes is the sum of moment `k` over the flat array. -/
theorem rows_total (A : Vec Ideal S16 .f32) (X : Vec Ideal S3211264 .f32) (α : EReal) (Y : ℕ → EReal) (hA : ∀ l, A l = α)
    (hX : ∀ (p : ℕ) (h : p < 3211264), X (ix1 ⟨p, h⟩) = Y p) (k : Fin 13) :
    ∑ w : Fin 32, ∑ l : Fin 16, (accTile A X w.val 8).get k.val (ix1 l) = ∑ p ∈ range 3211264, mom k.val α (Y p) := by
  have hrow : ∀ w : Fin 32, ∑ l : Fin 16, (accTile A X w.val 8).get k.val (ix1 l)
      = ∑ c ∈ range 8, ∑ q ∈ range 12544, mom k.val α (Y (12544 * (8 * w.val + c) + q)) := fun w => by
    simp only [accTile_get, hA]
    rw [Finset.sum_comm]
    refine Finset.sum_congr rfl fun c hc => ?_
    rw [Finset.sum_comm, show (12544 : ℕ) = 784 * 16 from rfl, sum_runs]
    refine Finset.sum_congr rfl fun t ht => ?_
    rw [Finset.sum_range]
    refine Finset.sum_congr rfl fun l _ => ?_
    rw [lanes_chunk X Y hX w.val c t l w.isLt (Finset.mem_range.mp hc) (Finset.mem_range.mp ht)]
  simp only [hrow]
  rw [show (3211264 : ℕ) = 256 * 12544 from rfl, sum_runs, show (256 : ℕ) = 32 * 8 from rfl, sum_runs,
    Finset.sum_range fun w => ∑ c ∈ range 8, ∑ q ∈ range 12544, mom k.val α (Y (12544 * (8 * w + c) + q))]

end Cert.Proof.Quant
-- ==== Proof.TcSum.lean ====
/-
  The TensorCore's partial sums over the extended reals: sum `k` of the planes is the sum of moment `k` over the 240
  blocks.
-/
module

public import proofs.«01_k».proof.Proof.ScSum
public import proofs.«01_k».proof.Proof.TcRegion

@[expose] public section

noncomputable section

namespace Cert.Proof.Quant

open Cert.KernelIdeal Cert.KernelIdeal.Gen
open Idealize.ShloMosaic Idealize.ShloMosaic.Pointwise
open Finset

theorem seven_eq (f : ℕ → EReal) : seven f = ∑ q ∈ range 7, f q := by
  simp [seven, Finset.sum_range_succ]

theorem tAcc0_get (k : Fin 13) (j : S8x56.Idx) : (tAcc0 : TAcc Ideal).get k.val j = 0 := by
  fin_cases k <;> (simp only [tAcc0, TAcc.get]; unfold_payloads; pointwise [])

/-- The sums of the first `n` faces of a block. -/
theorem tFold_get (α : EReal) (B : Vec Ideal S1x64x56x56 .f32) (k : Fin 13) (r : Fin 8) (w : Fin 56) (g : ℕ → ℕ → EReal)
    (hg : ∀ (s : ℕ) (hs : s < 64) (n : ℕ) (h : n < 56), B (ix4 0 ⟨s, hs⟩ ⟨n, h⟩ w) = g s n) (n : ℕ) (hn : n ≤ 64) :
    (tFold α B n).get k.val (ix2 r w) = ∑ s ∈ range n, ∑ q ∈ range 7, mom k.val α (g s (8 * q + r.val)) := by
  induction n with
  | zero => rw [tFold, tAcc0_get, Finset.sum_range_zero]
  | succ n ih =>
    rw [tFold, tStep_get α (face B n) (tFold α B n) k r w (g n), ih (by omega), Finset.sum_range_succ _ n, seven_eq]
    intro i hi
    rw [← hg n (by omega) i hi]
    refine congrArg B (funext fun x => ?_)
    match x with
    | ⟨0, _⟩ => rfl
    | ⟨1, _⟩ => exact Fin.ext (Nat.mod_eq_of_lt (by omega))
    | ⟨2, _⟩ => rfl
    | ⟨3, _⟩ => rfl

/-- A block's sums are added to the scratch. -/
theorem bump_get (M : Vec Ideal S13x8x56 .f32) (a : TAcc Ideal) (k : Fin 13) (r : Fin 8) (w : Fin 56) :
    bump M a (ix3 k r w) = M (ix3 k r w) + a.get k.val (ix2 r w) := by
  unfold bump
  unfold_payloads
  pointwise [plane]
  exact congrArg (· + _) (congrArg M (funext fun x => match x with | ⟨0, _⟩ => rfl | ⟨1, _⟩ => rfl | ⟨2, _⟩ => rfl))

theorem clear_get (j : S13x8x56.Idx) : (k1_pay30 (F := Ideal) : Vec Ideal S13x8x56 .f32) j = 0 := by
  unfold_payloads
  pointwise []

theorem later_point : ∀ t : Fin grid1.N, t.val ≠ 0 → atFirst (grid1.coords t) ≠ 1#1 := by decide +kernel

variable (Vv : TcVal Ideal) (c : Dev nD)

/-- The scratch before point `n`. -/
theorem tcAt_get (α : EReal) (hα : ∀ t, alphaOf (blkA Vv c t) = α) (k : Fin 13) (r : Fin 8) (w : Fin 56) (G : ℕ → ℕ → ℕ → EReal)
    (hG : ∀ (t : Fin cfg1.N) (s : ℕ) (hs : s < 64) (n : ℕ) (h : n < 56), blkX Vv c t (ix4 0 ⟨s, hs⟩ ⟨n, h⟩ w) = G t.val s n) (n : ℕ) (hn : n ≤ 240) :
    tcAt Vv c n (ix3 k r w) = ∑ t ∈ range n, ∑ s ∈ range 64, ∑ q ∈ range 7, mom k.val α (G t s (8 * q + r.val)) := by
  induction n with
  | zero => rw [tcAt, clear_get, Finset.sum_range_zero]
  | succ n ih =>
    have hn' : n < cfg1.N := by show n < 240; omega
    rw [show n + 1 = (⟨n, hn'⟩ : Fin cfg1.N).val + 1 from rfl, tcAt_succ]
    unfold tcStep
    rw [bump_get, tFold_get _ _ k r w (G n) (hG ⟨n, hn'⟩) 64 le_rfl, hα, Finset.sum_range_succ _ n, ← ih (by omega)]
    congr 1
    unfold cleared
    by_cases h : n = 0
    · rw [if_pos (first_point ⟨n, hn'⟩ h), clear_get, h, tcAt, clear_get]
    · rw [if_neg (later_point ⟨n, hn'⟩ h)]

/-- A sum past three others. -/
theorem sum_past {ι : Type} [Fintype ι] (A B C : Finset ℕ) (h : ι → ℕ → ℕ → ℕ → EReal) :
    ∑ i, ∑ a ∈ A, ∑ b ∈ B, ∑ c ∈ C, h i a b c = ∑ a ∈ A, ∑ b ∈ B, ∑ c ∈ C, ∑ i, h i a b c := by
  rw [Finset.sum_comm]
  refine Finset.sum_congr rfl fun a _ => ?_
  rw [Finset.sum_comm]
  refine Finset.sum_congr rfl fun b _ => ?_
  rw [Finset.sum_comm]

/-- Sum `k` over a plane is the sum of moment `k` over the elements from the 3211264th on. -/
theorem planes_total (α : EReal) (hα : ∀ t, alphaOf (blkA Vv c t) = α) (k : Fin 13) (Y : ℕ → EReal)
    (hY : ∀ (t : Fin cfg1.N) (s : ℕ) (hs : s < 64) (n : ℕ) (h : n < 56) (w : Fin 56),
      blkX Vv c t (ix4 0 ⟨s, hs⟩ ⟨n, h⟩ w) = Y (200704 * t.val + (3136 * s + (56 * n + w.val)))) :
    ∑ r : Fin 8, ∑ w : Fin 56, tcAt Vv c 240 (ix3 k r w) = ∑ p ∈ range 48168960, mom k.val α (Y p) := by
  have h1 : ∀ (r : Fin 8) (w : Fin 56), tcAt Vv c 240 (ix3 k r w)
      = ∑ t ∈ range 240, ∑ s ∈ range 64, ∑ q ∈ range 7, mom k.val α (Y (200704 * t + (3136 * s + (448 * q + (56 * r.val + w.val))))) := fun r w => by
    rw [tcAt_get Vv c α hα k r w (fun t s n => Y (200704 * t + (3136 * s + (56 * n + w.val)))) (fun t s hs n h => hY t s hs n h w) 240 le_rfl]
    refine Finset.sum_congr rfl fun t _ => Finset.sum_congr rfl fun s _ => Finset.sum_congr rfl fun q _ => ?_
    rw [show 56 * (8 * q + r.val) + w.val = 448 * q + (56 * r.val + w.val) by omega]
  simp only [h1]
  rw [show (48168960 : ℕ) = 240 * 200704 from rfl, sum_runs]
  rw [Finset.sum_congr rfl fun r _ => sum_past _ _ _ _, sum_past]
  refine Finset.sum_congr rfl fun t _ => ?_
  rw [show (200704 : ℕ) = 64 * 3136 from rfl, sum_runs]
  refine Finset.sum_congr rfl fun s _ => ?_
  rw [show (3136 : ℕ) = 7 * 448 from rfl, sum_runs]
  refine Finset.sum_congr rfl fun q _ => ?_
  rw [show (448 : ℕ) = 8 * 56 from rfl, sum_runs, Finset.sum_range]
  refine Finset.sum_congr rfl fun r _ => ?_
  rw [Finset.sum_range]

end Cert.Proof.Quant
-- ==== Proof.Blocks.lean ====
/-
  What the TensorCore call's blocks are, in the arrays they are cut from, and what its result holds.
-/
module

public import proofs.«01_k».proof.Proof.TcSum
public import proofs.«01_k».proof.Proof.Main
public import Idealize.ShloMosaic.Lib.Pipeline.ValueKit

@[expose] public section

noncomputable section

namespace Cert.Proof.Quant

open Cert.KernelIdeal Cert.KernelIdeal.Gen
open Idealize.ShloMosaic hiding T
open Idealize.ShloMosaic.TcCoe
open Idealize.ShloMosaic.Pointwise
open Idealize.SL.Sem
open Idealize.ShloMosaic.Pipeline (Window)

variable {F : FTy → Type} [FloatOps F]
variable (Vv : TcVal F) (c : Dev nD)

/-- The last grid point. -/
abbrev tLast : Fin cfg1.N := ⟨239, by decide⟩

theorem whole_last : (cfg1.win 2).WholeAt tLast := by decide +kernel

/-- The result holds what the scratch held after the last point. -/
theorem tcOut_eq : tcOut Vv c = tcAt Vv c 240 :=
  (dat Vv c).arrAt_eq_of_after_last 2 tLast whole_last _ fun _ => rfl

theorem index_0 : ∀ t : Fin grid1.N, win1_0.index t = ![0] := by decide +kernel

theorem index_1 : ∀ t : Fin grid1.N, win1_1.index t = ![4 + t.val / 4, t.val % 4, 0, 0] := by decide +kernel

/-- The block of the step is the array. -/
theorem alphaOf_blkA (t : Fin cfg1.N) (α : Elt F .f32) (h : ∀ i : S8.Idx, (Vv c main_v4 : Vec F S8 .f32) i = α) : alphaOf (blkA Vv c t) = α :=
  h _

/-- Element `(0, s, n, w)` of the block at point `t`: row `4 + t / 4`, channel `64 (t % 4) + s`. -/
theorem blkX_get (t : Fin cfg1.N) (s : Fin 64) (n w : Fin 56) (h1 : 4 + t.val / 4 < 64) (h2 : 64 * (t.val % 4) + s.val < 256) :
    blkX Vv c t (ix4 0 s n w) = (Vv c main_arg0 : Vec F S64x256x56x56 .f32) (ix4 ⟨4 + t.val / 4, h1⟩ ⟨64 * (t.val % 4) + s.val, h2⟩ n w) := by
  show (Vv c main_arg0 : Vec F S64x256x56x56 .f32) (((cfg1.win 1).blk t).view.emb (ix4 0 s n w)) = _
  congr 1
  funext a
  apply Fin.ext
  fin_cases a <;> blk_simp [index_1] <;> simp [ix4] <;> omega

end Cert.Proof.Quant
-- ==== Proof.Totals.lean ====
/-
  The thirteen totals: once both calls are done and their partial sums are added up, total `k` is the sum of moment `k`
  over every element of the activations.
-/
module

public import proofs.«01_k».proof.Proof.Blocks

@[expose] public section

noncomputable section

namespace Cert.Proof.Quant

open Cert.KernelIdeal Cert.KernelIdeal.Gen
open Idealize.ShloMosaic hiding T
open Idealize.ShloMosaic.TcCoe
open Idealize.ShloMosaic.SparseCore (S V T)
open Idealize.ShloMosaic.Pointwise
open Idealize.SL.Sem
open Idealize.ShloMosaic.StableHlo
open Finset

/-- Element `p` of the activations in row-major order. -/
def flatAt (x : Vec Ideal S64x256x56x56 .f32) (p : ℕ) : EReal :=
  x (ix4 ⟨p / 802816 % 64, Nat.mod_lt _ (by omega)⟩ ⟨p / 3136 % 256, Nat.mod_lt _ (by omega)⟩ ⟨p / 56 % 56, Nat.mod_lt _ (by omega)⟩
    ⟨p % 56, Nat.mod_lt _ (by omega)⟩)

/-- Element `(a, b, i, j)` is element `802816 a + 3136 b + 56 i + j`. -/
theorem flatAt_eq (x : Vec Ideal S64x256x56x56 .f32) (p : ℕ) (a : Fin 64) (b : Fin 256) (i j : Fin 56)
    (h : p = 802816 * a.val + (3136 * b.val + (56 * i.val + j.val))) : x (ix4 a b i j) = flatAt x p := by
  obtain ⟨a, ha⟩ := a; obtain ⟨b, hb⟩ := b; obtain ⟨i, hi⟩ := i; obtain ⟨j, hj⟩ := j
  simp only at h
  unfold flatAt
  congr 1
  rw [ix4_inj]
  refine ⟨Fin.ext ?_, Fin.ext ?_, Fin.ext ?_, Fin.ext ?_⟩ <;> simp only <;> omega

/-- A sum over the first and the last axis. -/
theorem reduce_ends (v : Vec Ideal S32x13x16 .f32) (z : EReal) (k : Fin 13) (h : S32x13x16.ReducesTo [0, 2] S13) :
    Ideal.hostReduceAdd h v z (ix1 k) = z + ∑ w : Fin 32, ∑ l : Fin 16, v (ix3 w k l) := by
  unfold Ideal.hostReduceAdd
  congr 1
  rw [Finset.sum_filter, sum_idx3]
  have hd : ∀ (w : Fin 32) (k' : Fin 13) (l : Fin 16), h.drop (ix3 w k' l) = ix1 k ↔ k' = k := fun w k' l => by
    constructor
    · intro e; exact congrFun e 0
    · rintro rfl; funext i; match i with | ⟨0, _⟩ => rfl
  simp only [hd]
  refine Finset.sum_congr rfl fun w _ => ?_
  rw [Finset.sum_comm]
  refine Finset.sum_congr rfl fun l _ => ?_
  rw [Finset.sum_ite_eq' Finset.univ k fun k' => v (ix3 w k' l), if_pos (Finset.mem_univ _)]

variable (m : (ℓ : Loc nD τ sig) → Buf (Elt Ideal) ℓ) (d : Dev nD)

/-- The activations and the step that the program starts with. -/
abbrev acts : Vec Ideal S64x256x56x56 .f32 := m ((T d).loc main_arg0)
abbrev step : EReal := (m ((T d).loc main_arg1) : Vec Ideal S_ .f32) ix0

/-- The stretch of the SparseCore is the first 3211264 elements, -/
theorem flatV_get (p : ℕ) (h : p < 3211264) : flatV m d (ix1 ⟨p, h⟩) = flatAt (acts m d) p := by
  have e : flatV m d = shapeCast _ (extractStridedSlice S4x256x56x56 ![0, 0, 0, 0] (acts m d) slices_S64x256x56x56_S4x256x56x56_0_0_0_0)
      shapeCasts_S4x256x56x56_S3211264 := by
    unfold flatV val1
    after_results_simp
    rfl
  rw [e]
  pointwise []
  unfold flatAt
  congr 1
  rw [ix4_inj]
  exact ⟨Fin.ext (Nat.mod_eq_of_lt (by omega)).symm, rfl, rfl, rfl⟩

/-- and its step is the step, sixteen times. -/
theorem stepV_get (l : S16.Idx) : stepV m d l = step m d := by
  have e : stepV m d = broadcastInDim S16 ![] bcast_S_S16 (m ((T d).loc main_arg1) : Vec Ideal S_ .f32) := by
    unfold stepV val1
    after_results_simp
  rw [e]
  pointwise []

/-- A vector of thirteen from its elements. -/
def vec13 (f : Fin 13 → EReal) : Vec Ideal S13 .f32 := fun j => f (j 0)

theorem vec13_get (f : Fin 13 → EReal) (k : Fin 13) : vec13 f (ix1 k) = f k := rfl

theorem eq_vec13 (v : Vec Ideal S13 .f32) (f : Fin 13 → EReal) (h : ∀ k, v (ix1 k) = f k) : v = vec13 f :=
  funext fun j => by rw [eq_ix1 j]; exact h _

/-- The two calls' sums added. -/
def added (R : Vec Ideal S32x208 .f32) (P : Vec Ideal S13x8x56 .f32) (k : Fin 13) : EReal :=
  (∑ w : Fin 32, ∑ l : Fin 16, R (ix2 w ⟨16 * k.val + l.val, by omega⟩)) + ∑ r : Fin 8, ∑ w : Fin 56, P (ix3 k r w)

theorem sum_get (V : Valuation τ sig (Elt Ideal)) (R : Vec Ideal S32x208 .f32) (P : Vec Ideal S13x8x56 .f32) (hR : V (hr main_v3) = R)
    (hP : V (hr main_v5) = P) : after sumOps V (hr main_v9) = vec13 (added R P) := by
  have e : after sumOps V (hr main_v9) = (addf (F := Ideal) (Host.reduceAdd (shapeCast _ R shapeCasts_S32x208_S32x13x16) (constant (F := Ideal) S_ .f32 0x00000000#32) reducesTo_S32x13x16_S13_d0_2 h_S_)
      (Host.reduceAdd P (constant (F := Ideal) S_ .f32 0x00000000#32) reducesTo_S13x8x56_S13_d1_2 h_S_) : Vec Ideal S13 .f32) := by
    after_results_simp
    rw [hR, hP]
    rfl
  rw [e]
  refine eq_vec13 _ _ fun k => ?_
  pointwise []
  rw [reduce_ends, zero_add]
  unfold added
  congr 1
  refine Finset.sum_congr rfl fun w _ => Finset.sum_congr rfl fun l _ => ?_
  pointwise []
  refine congrArg R ?_
  rw [ix2_inj]
  have hk := k.isLt
  have hl := l.isLt
  exact ⟨Fin.ext (by simp only), Fin.ext (by simp only; omega)⟩

theorem val4_v3 : val4 m d (hr main_v3) = (rowsOut (stepV m d) (flatV m d) : Vec Ideal S32x208 .f32) := by
  rw [val4_ne m d main_v3 (by decide)]
  unfold val3
  rw [after_of_writes_sub _ _ midOps_writes (by decide), val2_v3]

/-- The activations that the TensorCore call reads are the program's, -/
theorem tcVal_arg0 : (tcVal m d main_arg0 : Vec Ideal S64x256x56x56 .f32) = acts m d := by
  show val3 m d (hr main_arg0) = _
  unfold val3
  rw [after_of_writes_sub _ _ midOps_writes (by decide), val2_ne m d _ (devRef_ne_of_ne (by decide))]
  unfold val1
  exact after_of_writes_sub _ _ preOps_writes (by decide)

/-- and its step is the step, eight times. -/
theorem tcVal_v4 (i : S8.Idx) : (tcVal m d main_v4 : Vec Ideal S8 .f32) i = step m d := by
  have e : (tcVal m d main_v4 : Vec Ideal S8 .f32) = broadcastInDim S8 ![] bcast_S_S8 (m ((T d).loc main_arg1) : Vec Ideal S_ .f32) := by
    show val3 m d (hr main_v4) = _
    unfold val3
    after_results_simp
    rw [val2_ne m d _ (devRef_ne_of_ne (by decide))]
    unfold val1
    rw [after_of_writes_sub _ _ preOps_writes (by decide)]
  rw [e]
  pointwise []

/-- Total `k` over every element. -/
def total (k : ℕ) (α : EReal) (Y : ℕ → EReal) : EReal := ∑ p ∈ range 51380224, mom k α (Y p)

/-- The totals once both calls are done. -/
theorem totals_get : after sumOps (val4 m d) (hr main_v9) = vec13 fun k => total k.val (step m d) (flatAt (acts m d)) := by
  rw [sum_get (val4 m d) _ _ (val4_v3 m d) ((val4_v5 m d).trans (tcOut_eq _ d))]
  refine congrArg vec13 (funext fun k => ?_)
  unfold added total
  simp only [rowsOut_get]
  rw [rows_total _ _ (step m d) (flatAt (acts m d)) (stepV_get m d) (flatV_get m d) k,
    planes_total (tcVal m) d (step m d) (fun t => alphaOf_blkA _ _ t _ (tcVal_v4 m d)) k (fun p => flatAt (acts m d) (3211264 + p)),
    show (51380224 : ℕ) = 3211264 + 48168960 from rfl, Finset.sum_range_add]
  intro t s hs n hn w
  have ht : t.val < 240 := t.isLt
  rw [blkX_get (tcVal m) d t ⟨s, hs⟩ ⟨n, hn⟩ w (by omega) (by simp only; omega), tcVal_arg0]
  exact flatAt_eq _ _ _ _ _ _ (by simp only; omega)

end Cert.Proof.Quant
-- ==== Proof.HostValue.lean ====
/-
  The lines after the two calls, from the thirteen totals to the seven results.
-/
module

public import proofs.«01_k».proof.Proof.Totals

@[expose] public section

noncomputable section

namespace Cert.Proof.Quant

open Cert.KernelIdeal Cert.KernelIdeal.Gen
open Idealize.ShloMosaic hiding T
open Idealize.ShloMosaic.TcCoe
open Idealize.ShloMosaic.SparseCore (S V T)
open Idealize.ShloMosaic.Pointwise
open Idealize.SL.Sem
open Idealize.ShloMosaic.StableHlo
open Finset

/-! ## The formulas -/

/-- The number of elements. -/
abbrev num : EReal := lit 0x4C440000#32
abbrev two : EReal := lit 0x40000000#32
abbrev hundred : EReal := lit 0x42C80000#32

/-- Each level's count, sum and sum of squares, from the totals `M`. -/
def cntOf (M : ℕ → EReal) (b : Fin 4) : EReal := match b with | 0 => num - M 0 | 1 => M 0 - M 1 | 2 => M 1 - M 2 | 3 => M 2
def sumOf (M : ℕ → EReal) (b : Fin 4) : EReal := match b with | 0 => M 3 - M 4 | 1 => M 4 - M 5 | 2 => M 5 - M 6 | 3 => M 6
def sqOf (M : ℕ → EReal) (b : Fin 4) : EReal := match b with | 0 => M 7 - M 8 | 1 => M 8 - M 9 | 2 => M 9 - M 10 | 3 => M 10

/-- Level `b`. -/
def level (α : EReal) (b : Fin 4) : EReal := ((b.val : ℝ) : EReal) * α

/-- The mean of a level's elements, from their count and sum. -/
def meanOf (c s : EReal) : EReal := Ideal.div s (max c 1)

/-- A level's squared distance of its mean, when it has elements. -/
def mseOf (c s l : EReal) : EReal := if 0 < c then (meanOf c s - l) * (meanOf c s - l) else 0

/-- A level's variance by the sum of squares, when it has two elements. -/
def varOf (c s q : EReal) : EReal :=
  if two ≤ c then Ideal.div (q - two * meanOf c s * s + c * meanOf c s * meanOf c s) (max c 1) else 0

/-- A level's squared error. -/
def errOf (c s q l : EReal) : EReal := q - two * l * s + c * l * l

/-- How well the mean distance `D` does against half a step. -/
def effOf (α D : EReal) : EReal :=
  min hundred (max 0 (hundred * (1 - Ideal.div D (α * lit 0x3F000000#32 + lit 0x2B8CBCCC#32))))

/-! ## The lines -/

/-- A vector of four from its elements, a scalar from its one. -/
def vec4 (f : Fin 4 → EReal) : Vec Ideal S4 .f32 := fun j => f (j 0)
theorem vec4_get (f : Fin 4 → EReal) (b : Fin 4) : vec4 f (ix1 b) = f b := rfl
theorem eq_vec4 (v : Vec Ideal S4 .f32) (f : Fin 4 → EReal) (h : ∀ b, v (ix1 b) = f b) : v = vec4 f :=
  funext fun j => by rw [eq_ix1 j]; exact h _
def vec0 (x : EReal) : Vec Ideal S_ .f32 := fun _ => x
theorem vec0_get (x : EReal) (i : S_.Idx) : vec0 x i = x := rfl
theorem eq_vec0 (v : Vec Ideal S_ .f32) (x : EReal) (h : v ix0 = x) : v = vec0 x :=
  funext fun j => by rw [← ix0_eta j]; exact h

def vec1 (x : EReal) : Vec Ideal S1 .f32 := fun _ => x
theorem eq_vec1 (v : Vec Ideal S1 .f32) (x : EReal) (h : v (ix1 0) = x) : v = vec1 x :=
  funext fun j => by
    rw [eq_ix1 j]
    exact (congrArg (fun k : Fin 1 => v (ix1 k)) (Subsingleton.elim (α := Fin 1) (j 0) 0)).trans h

variable (V : Valuation τ sig (Elt Ideal)) (M : ℕ → EReal)

/-- Four numbers as the four pieces of a vector. -/
theorem cat_get {x0 x1 x2 x3 : Vec Ideal S1 .f32} (f : Fin 4 → EReal) (h : Shape.Concatenates [S1, S1, S1, S1] S4 0)
    (h0 : x0 (ix1 0) = f 0) (h1 : x1 (ix1 0) = f 1) (h2 : x2 (ix1 0) = f 2) (h3 : x3 (ix1 0) = f 3) :
    concatenate S4 0 [⟨S1, x0⟩, ⟨S1, x1⟩, ⟨S1, x2⟩, ⟨S1, x3⟩] h = vec4 f := by
  refine eq_vec4 _ _ fun b => ?_
  fin_cases b <;> pointwise [h0, h1, h2, h3]

/-- One list of lines run in two parts. -/
theorem after_split (n : ℕ) (ops : List (HloOp τ sig (Elt Ideal))) (r : DevRef τ sig) :
    after ops V r = after (ops.drop n) (after (ops.take n) V) r := by
  rw [← after_append, List.take_append_drop]

/-- The counts are four numbers side by side, -/
theorem moment_cnt_pieces (W : Valuation τ sig (Elt Ideal)) : after (momentOps.drop 34) W (hr main_v43)
    = concatenate S4 0 [⟨S1, (W (hr main_v39) : (⟨S1, .f32⟩ : BufTy).Contents (Elt Ideal))⟩,
        ⟨S1, (W (hr main_v40) : (⟨S1, .f32⟩ : BufTy).Contents (Elt Ideal))⟩,
        ⟨S1, (W (hr main_v41) : (⟨S1, .f32⟩ : BufTy).Contents (Elt Ideal))⟩,
        ⟨S1, (W (hr main_v42) : (⟨S1, .f32⟩ : BufTy).Contents (Elt Ideal))⟩] concatenates_S1_S1_S1_S1_S4_d0 := by
  simp only [momentOps, List.drop_succ_cons, List.drop_zero]
  after_results_simp
  rfl

theorem moment_cnt (h : V (hr main_v9) = vec13 fun k => M k.val) : after momentOps V (hr main_v43) = vec4 (cntOf M) := by
  rw [after_split V 34, moment_cnt_pieces]
  refine cat_get (cntOf M) _ ?_ ?_ ?_ ?_ <;> simp only [momentOps, List.take_succ_cons, List.take_zero] <;> after_results_simp
  all_goals rw [h]; pointwise [vec13_get, cntOf]; try rfl

/-- the sums too, -/
theorem moment_sum_pieces (W : Valuation τ sig (Elt Ideal)) : after (momentOps.drop 42) W (hr main_v51)
    = concatenate S4 0 [⟨S1, (W (hr main_v47) : (⟨S1, .f32⟩ : BufTy).Contents (Elt Ideal))⟩,
        ⟨S1, (W (hr main_v48) : (⟨S1, .f32⟩ : BufTy).Contents (Elt Ideal))⟩,
        ⟨S1, (W (hr main_v49) : (⟨S1, .f32⟩ : BufTy).Contents (Elt Ideal))⟩,
        ⟨S1, (W (hr main_v50) : (⟨S1, .f32⟩ : BufTy).Contents (Elt Ideal))⟩] concatenates_S1_S1_S1_S1_S4_d0 := by
  simp only [momentOps, List.drop_succ_cons, List.drop_zero]
  after_results_simp
  rfl

theorem moment_sum (h : V (hr main_v9) = vec13 fun k => M k.val) : after momentOps V (hr main_v51) = vec4 (sumOf M) := by
  rw [after_split V 42, moment_sum_pieces]
  refine cat_get (sumOf M) _ ?_ ?_ ?_ ?_ <;> simp only [momentOps, List.take_succ_cons, List.take_zero] <;> after_results_simp
  all_goals rw [h]; pointwise [vec13_get, sumOf]; try rfl

/-- and the sums of squares. -/
theorem level_sq_pieces (W : Valuation τ sig (Elt Ideal)) : after (levelOps.drop 2) W (hr main_v59)
    = concatenate S4 0 [⟨S1, (W (hr main_v55) : (⟨S1, .f32⟩ : BufTy).Contents (Elt Ideal))⟩,
        ⟨S1, (W (hr main_v56) : (⟨S1, .f32⟩ : BufTy).Contents (Elt Ideal))⟩,
        ⟨S1, (W (hr main_v57) : (⟨S1, .f32⟩ : BufTy).Contents (Elt Ideal))⟩,
        ⟨S1, (W (hr main_v58) : (⟨S1, .f32⟩ : BufTy).Contents (Elt Ideal))⟩] concatenates_S1_S1_S1_S1_S4_d0 := by
  simp only [levelOps, List.drop_succ_cons, List.drop_zero]
  after_results_simp
  rfl

theorem level_sq (h0 : V (hr main_v55) = vec1 (M 7 - M 8)) (h1 : V (hr main_v56) = vec1 (M 8 - M 9))
    (h2 : V (hr main_v54) = vec0 (M 9 - M 10)) (h3 : V (hr main_v31) = vec0 (M 10)) : after levelOps V (hr main_v59) = vec4 (sqOf M) := by
  rw [after_split V 2, level_sq_pieces]
  refine cat_get (sqOf M) _ ?_ ?_ ?_ ?_ <;> simp only [levelOps, List.take_succ_cons, List.take_zero] <;> after_results_simp
  · rw [h0]; rfl
  · rw [h1]; rfl
  · rw [h2]; pointwise [vec0_get]; rfl
  · rw [h3]; pointwise [vec0_get]; rfl

theorem moment_v55 (h : V (hr main_v9) = vec13 fun k => M k.val) : after momentOps V (hr main_v55) = vec1 (M 7 - M 8) := by
  refine eq_vec1 _ _ ?_
  after_results_simp
  rw [h]
  pointwise [vec13_get]
  try rfl

theorem moment_v56 (h : V (hr main_v9) = vec13 fun k => M k.val) : after momentOps V (hr main_v56) = vec1 (M 8 - M 9) := by
  refine eq_vec1 _ _ ?_
  after_results_simp
  rw [h]
  pointwise [vec13_get]
  try rfl

theorem moment_v54 (h : V (hr main_v9) = vec13 fun k => M k.val) : after momentOps V (hr main_v54) = vec0 (M 9 - M 10) := by
  refine eq_vec0 _ _ ?_
  after_results_simp
  rw [h]
  pointwise [vec13_get]
  try rfl

theorem moment_v31 (h : V (hr main_v9) = vec13 fun k => M k.val) : after momentOps V (hr main_v31) = vec0 (M 10) := by
  refine eq_vec0 _ _ ?_
  after_results_simp
  rw [h]
  pointwise [vec13_get]
  try rfl

theorem moment_v33 (h : V (hr main_v9) = vec13 fun k => M k.val) : after momentOps V (hr main_v33) = vec0 (M 11) := by
  refine eq_vec0 _ _ ?_
  after_results_simp
  rw [h]
  pointwise [vec13_get]
  try rfl

theorem moment_v35 (h : V (hr main_v9) = vec13 fun k => M k.val) : after momentOps V (hr main_v35) = vec0 (M 12) := by
  refine eq_vec0 _ _ ?_
  after_results_simp
  rw [h]
  pointwise [vec13_get]
  try rfl

theorem level_lev (α : EReal) (h : V (hr main_arg1) = vec0 α) : after levelOps V (hr main_v62) = vec4 (level α) := by
  refine eq_vec4 _ _ fun b => ?_
  after_results_simp
  rw [h]
  have e : ∀ k : ℕ, k < 4 → (FloatOps.sitofp .f32 (BitVec.ofNat 32 k) : Ideal .f32) = ((k : ℝ) : EReal) := fun k hk => by
    show (((BitVec.ofNat 32 k).toInt : ℝ) : EReal) = _
    interval_cases k <;> norm_num [BitVec.toInt]
  fin_cases b <;> pointwise [vec0_get, level]
  exacts [congrArg (· * α) (e 0 (by decide)), congrArg (· * α) (e 1 (by decide)), congrArg (· * α) (e 2 (by decide)), congrArg (· * α) (e 3 (by decide))]

theorem level_safe (c : Fin 4 → EReal) (h : V (hr main_v43) = vec4 c) : after levelOps V (hr main_v64) = vec4 fun b => max (c b) 1 := by
  refine eq_vec4 _ _ fun b => ?_
  after_results_simp
  rw [h]
  pointwise [vec4_get]

variable (α : EReal) (c s q l : Fin 4 → EReal)

theorem loss_mse (hc : V (hr main_v43) = vec4 c) (hs : V (hr main_v51) = vec4 s) (hl : V (hr main_v62) = vec4 l)
    (hm : V (hr main_v64) = vec4 fun b => max (c b) 1) :
    after lossOps V (hr main_v71) = vec0 (∑ b, mseOf (c b) (s b) (l b)) := by
  refine eq_vec0 _ _ ?_
  simp only [lossOps, TRef.binary, TRef.ternary, TRef.unary, TRef.toBuf, TRef.ofBuf, cast_eq]
  after_results_simp
  simp only [id]
  rw [hc, hs, hl, hm]
  pointwise [vec4_get, mseOf, meanOf]
  try rfl

theorem loss_var (hc : V (hr main_v43) = vec4 c) (hs : V (hr main_v51) = vec4 s) (hq : V (hr main_v59) = vec4 q)
    (hm : V (hr main_v64) = vec4 fun b => max (c b) 1) :
    after lossOps V (hr main_v83) = vec0 (∑ b, varOf (c b) (s b) (q b)) := by
  refine eq_vec0 _ _ ?_
  simp only [lossOps, TRef.binary, TRef.ternary, TRef.unary, TRef.toBuf, TRef.ofBuf, cast_eq]
  after_results_simp
  simp only [id]
  rw [hc, hs, hq, hm]
  pointwise [vec4_get, varOf, meanOf]
  try rfl

theorem loss_sum : after lossOps V (hr main_v84) = (addf (F := Ideal) (φ := .f32) (after lossOps V (hr main_v71) : Vec Ideal S_ .f32) (after lossOps V (hr main_v83) : Vec Ideal S_ .f32) : Vec Ideal S_ .f32) := by
  simp only [lossOps, TRef.binary, TRef.ternary, TRef.unary, TRef.toBuf, TRef.ofBuf, cast_eq]
  after_results_simp

theorem error_sq (hc : V (hr main_v43) = vec4 c) (hs : V (hr main_v51) = vec4 s) (hq : V (hr main_v59) = vec4 q)
    (hl : V (hr main_v62) = vec4 l) :
    after errorOps V (hr main_v93) = vec0 (Ideal.div (∑ b, errOf (c b) (s b) (q b) (l b)) num) := by
  refine eq_vec0 _ _ ?_
  after_results_simp
  rw [hc, hs, hl, hq]
  pointwise [vec4_get, errOf]

theorem error_mean (D : EReal) (h : V (hr main_v33) = vec0 D) : after errorOps V (hr main_v94) = vec0 (Ideal.div D num) := by
  refine eq_vec0 _ _ ?_
  after_results_simp
  rw [h]
  pointwise [vec0_get]
  try rfl

theorem error_eff (D : EReal) (h : V (hr main_v33) = vec0 D) (ha : V (hr main_arg1) = vec0 α) :
    after shareOps (after errorOps V) (hr main_v100) = vec0 (effOf α (Ideal.div D num)) := by
  refine eq_vec0 _ _ ?_
  rw [← after_append]
  simp only [errorOps, shareOps, List.cons_append, List.nil_append, TRef.binary, TRef.ternary, TRef.unary, TRef.toBuf, TRef.ofBuf, cast_eq]
  after_results_simp
  simp only [id]
  rw [h, ha]
  pointwise [vec0_get, effOf]
  try rfl

theorem share_near (E : EReal) (h : V (hr main_v35) = vec0 E) : after shareOps V (hr main_v102) = vec0 (Ideal.div E num * hundred) := by
  refine eq_vec0 _ _ ?_
  simp only [shareOps, TRef.binary, TRef.ternary, TRef.unary, TRef.toBuf, TRef.ofBuf, cast_eq]
  after_results_simp
  rw [h]
  pointwise [vec0_get]
  try rfl
/-! ## The results -/

/-- The seven results as they follow from the totals `M` and the step. -/
def totalMse (α : EReal) (M : ℕ → EReal) : EReal := ∑ b, mseOf (cntOf M b) (sumOf M b) (level α b)
def totalVar (M : ℕ → EReal) : EReal := ∑ b, varOf (cntOf M b) (sumOf M b) (sqOf M b)
def quantMse (α : EReal) (M : ℕ → EReal) : EReal := Ideal.div (∑ b, errOf (cntOf M b) (sumOf M b) (sqOf M b) (level α b)) num

theorem tail_results (h : after sumOps V (hr main_v9) = vec13 fun k => M k.val) (ha : V (hr main_arg1) = vec0 α) :
    after tailOps V (hr main_v84) = vec0 (totalMse α M + totalVar M) ∧ after tailOps V (hr main_v71) = vec0 (totalMse α M)
      ∧ after tailOps V (hr main_v83) = vec0 (totalVar M) ∧ after tailOps V (hr main_v93) = vec0 (quantMse α M)
      ∧ after tailOps V (hr main_v94) = vec0 (Ideal.div (M 11) num)
      ∧ after tailOps V (hr main_v100) = vec0 (effOf α (Ideal.div (M 11) num))
      ∧ after tailOps V (hr main_v102) = vec0 (Ideal.div (M 12) num * hundred) := by
  simp only [tailOps, after_append]
  have a1 : after sumOps V (hr main_arg1) = vec0 α := (after_of_writes_sub _ _ sumOps_writes (by decide)).trans ha
  generalize after sumOps V = V1 at h a1 ⊢
  have c2 := moment_cnt V1 M h
  have s2 := moment_sum V1 M h
  have q55 := moment_v55 V1 M h
  have q56 := moment_v56 V1 M h
  have q54 := moment_v54 V1 M h
  have q31 := moment_v31 V1 M h
  have d2 := moment_v33 V1 M h
  have e2 := moment_v35 V1 M h
  have a2 : after momentOps V1 (hr main_arg1) = vec0 α := (after_of_writes_sub _ _ momentOps_writes (by decide)).trans a1
  generalize after momentOps V1 = V2 at c2 s2 q55 q56 q54 q31 d2 e2 a2 ⊢
  have q3 := level_sq V2 M q55 q56 q54 q31
  have l3 := level_lev V2 α a2
  have m3 := level_safe V2 _ c2
  have c3 : after levelOps V2 (hr main_v43) = vec4 (cntOf M) := (after_of_writes_sub _ _ levelOps_writes (by decide)).trans c2
  have s3 : after levelOps V2 (hr main_v51) = vec4 (sumOf M) := (after_of_writes_sub _ _ levelOps_writes (by decide)).trans s2
  have d3 : after levelOps V2 (hr main_v33) = vec0 (M 11) := (after_of_writes_sub _ _ levelOps_writes (by decide)).trans d2
  have e3 : after levelOps V2 (hr main_v35) = vec0 (M 12) := (after_of_writes_sub _ _ levelOps_writes (by decide)).trans e2
  have a3 : after levelOps V2 (hr main_arg1) = vec0 α := (after_of_writes_sub _ _ levelOps_writes (by decide)).trans a2
  generalize after levelOps V2 = V3 at q3 l3 m3 c3 s3 d3 e3 a3 ⊢
  have t71 : after lossOps V3 (hr main_v71) = vec0 (totalMse α M) := loss_mse V3 _ _ _ c3 s3 l3 m3
  have t83 : after lossOps V3 (hr main_v83) = vec0 (totalVar M) := loss_var V3 _ _ _ c3 s3 q3 m3
  have t84 : after lossOps V3 (hr main_v84) = vec0 (totalMse α M + totalVar M) := by
    rw [loss_sum, t71, t83]; rfl
  have c4 : after lossOps V3 (hr main_v43) = vec4 (cntOf M) := (after_of_writes_sub _ _ lossOps_writes (by decide)).trans c3
  have s4 : after lossOps V3 (hr main_v51) = vec4 (sumOf M) := (after_of_writes_sub _ _ lossOps_writes (by decide)).trans s3
  have q4 : after lossOps V3 (hr main_v59) = vec4 (sqOf M) := (after_of_writes_sub _ _ lossOps_writes (by decide)).trans q3
  have l4 : after lossOps V3 (hr main_v62) = vec4 (level α) := (after_of_writes_sub _ _ lossOps_writes (by decide)).trans l3
  have d4 : after lossOps V3 (hr main_v33) = vec0 (M 11) := (after_of_writes_sub _ _ lossOps_writes (by decide)).trans d3
  have e4 : after lossOps V3 (hr main_v35) = vec0 (M 12) := (after_of_writes_sub _ _ lossOps_writes (by decide)).trans e3
  have a4 : after lossOps V3 (hr main_arg1) = vec0 α := (after_of_writes_sub _ _ lossOps_writes (by decide)).trans a3
  generalize after lossOps V3 = V4 at t71 t83 t84 c4 s4 q4 l4 d4 e4 a4 ⊢
  refine ⟨?_, ?_, ?_, ?_, ?_, error_eff V4 α _ d4 a4, ?_⟩
  · exact (after_of_writes_sub _ _ shareOps_writes (by decide)).trans ((after_of_writes_sub _ _ errorOps_writes (by decide)).trans t84)
  · exact (after_of_writes_sub _ _ shareOps_writes (by decide)).trans ((after_of_writes_sub _ _ errorOps_writes (by decide)).trans t71)
  · exact (after_of_writes_sub _ _ shareOps_writes (by decide)).trans ((after_of_writes_sub _ _ errorOps_writes (by decide)).trans t83)
  · exact (after_of_writes_sub _ _ shareOps_writes (by decide)).trans (error_sq V4 _ _ _ _ c4 s4 q4 l4)
  · exact (after_of_writes_sub _ _ shareOps_writes (by decide)).trans (error_mean V4 _ d4)
  · exact share_near _ _ ((after_of_writes_sub _ _ errorOps_writes (by decide)).trans e4)

variable (m : (ℓ : Loc nD τ sig) → Buf (Elt Ideal) ℓ) (d : Dev nD)

theorem val4_arg1 : val4 m d (hr main_arg1) = vec0 (step m d) := by
  rw [val4_ne m d main_arg1 (by decide)]
  unfold val3
  rw [after_of_writes_sub _ _ midOps_writes (by decide), val2_ne m d _ (devRef_ne_of_ne (by decide))]
  unfold val1
  rw [after_of_writes_sub _ _ preOps_writes (by decide)]
  exact eq_vec0 _ _ rfl

/-- The program's results are those of the totals over its activations. -/
theorem val5_results (M : ℕ → EReal) (hM : ∀ k, k < 13 → total k (step m d) (flatAt (acts m d)) = M k) :
    val5 m d (hr main_v84) = vec0 (totalMse (step m d) M + totalVar M) ∧ val5 m d (hr main_v71) = vec0 (totalMse (step m d) M)
      ∧ val5 m d (hr main_v83) = vec0 (totalVar M) ∧ val5 m d (hr main_v93) = vec0 (quantMse (step m d) M)
      ∧ val5 m d (hr main_v94) = vec0 (Ideal.div (M 11) num)
      ∧ val5 m d (hr main_v100) = vec0 (effOf (step m d) (Ideal.div (M 11) num))
      ∧ val5 m d (hr main_v102) = vec0 (Ideal.div (M 12) num * hundred) := by
  unfold val5
  refine tail_results _ M (step m d) ?_ (val4_arg1 m d)
  rw [totals_get]
  exact congrArg vec13 (funext fun k => hM k.val k.isLt)

end Cert.Proof.Quant
-- ==== Proof.RefValue.lean ====
/-
  What the reference computes, as sums over the elements in the order in which they lie.
-/
module

public import proofs.«01_k».proof.Proof.HostValue
public import proofs.«01_k».proof.Proof.Gen.ReferenceIdeal.Run
public import Idealize.ShloMosaic.Lib.IndicatorCount

@[expose] public section

noncomputable section

namespace Cert.Proof.Quant

open Cert.ReferenceIdeal Cert.ReferenceIdeal.Gen Cert.ReferenceIdeal.Value
open Idealize.ShloMosaic
open Idealize.ShloMosaic.TcCoe
open Idealize.ShloMosaic.Pointwise
open Idealize.ShloMosaic.StableHlo
open Idealize.SL.Sem
open Finset

/-! ## Formulas -/

/-- The level of an element, as the reference rounds it. -/
def code (α x : EReal) : BitVec 32 :=
  Ideal.fptosi 32 (Ideal.liftRound Ideal.roundHalfEven (min ((3 : ℝ) : EReal) (max ((0 : ℝ) : EReal) (Ideal.div x α))))

/-- How many of the elements have level `b`, and their sum. -/
def cntR (α : EReal) (Y : ℕ → EReal) (b : BitVec 32) : ℕ := ((range 51380224).filter fun p => code α (Y p) = b).card
def sumR (α : EReal) (Y : ℕ → EReal) (b : BitVec 32) : EReal := ∑ p ∈ range 51380224, if code α (Y p) = b then Y p else 0

variable (W : Valuation τ sig (Elt Ideal))

/-- The reference's activations and its step. -/
abbrev actsR : Vec Ideal S64x256x56x56 .f32 := W (Proc.devRef .tc main_arg0)
abbrev stepR : EReal := (W (Proc.devRef .tc main_arg1) : Vec Ideal S_ .f32) ix0
abbrev flatR (p : ℕ) : EReal := flatAt (actsR W) p

theorem v0_get (p : Fin 51380224) : (res_main_v0 W : Vec Ideal S51380224 .f32) (ix1 p) = flatR W p.val := by
  unfold res_main_v0
  pointwise
  refine (flatAt_eq (actsR W) p.val ⟨p.val / 802816, by omega⟩ ⟨p.val / 3136 % 256, Nat.mod_lt _ (by omega)⟩ ⟨p.val / 56 % 56, Nat.mod_lt _ (by omega)⟩
    ⟨p.val % 56, Nat.mod_lt _ (by omega)⟩ ?_)
  simp only
  omega

/-- A small word as a float. -/
theorem float_small (k : ℕ) (h : k < 2 ^ 31) : (FloatOps.sitofp .f32 (BitVec.ofNat 32 k) : Ideal .f32) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_cast

theorem v8_get (p : Fin 51380224) : (res_main_v8 W : Vec Ideal S51380224 .i32) (ix1 p) = code (stepR W) (flatR W p.val) := by
  rw [← v0_get]
  unfold res_main_v8
  pointwise [code]
  rw [float_small 3 (by norm_num), float_small 0 (by norm_num)]
  norm_num
  rfl

/-- The elements of level `b`, their number, and so on. -/
def maskV (b : BitVec 32) : Vec Ideal S51380224 .i1 :=
  cmpi .eq (res_main_v8 W) (broadcastInDim S51380224 ![] bcast_S_S51380224 (constantI S_ 32 b))

theorem maskV_get (b : BitVec 32) (p : Fin 51380224) :
    maskV W b (ix1 p) = BitVec.ofBool (decide (code (stepR W) (flatR W p.val) = b)) := by
  rw [← v8_get]
  unfold maskV
  pointwise
  rfl

def cntV (b : BitVec 32) : Vec Ideal S_ .i32 :=
  Host.reduce IntOp.addi (extui 32 (maskV W b) natLt_1_32) (constantI S_ 32 0#32) reducesTo_S51380224_S_d0 h_S_

theorem cntV_get (b : BitVec 32) : cntV W b ix0 = BitVec.ofNat 32 (cntR (stepR W) (flatR W) b) := by
  unfold cntV
  pointwise
  rw [IndicatorCount.fold_addi_setWidth_eq_card]
  refine congrArg (BitVec.ofNat 32) ?_
  rw [cntR, card_filter, card_filter, sum_range]
  refine sum_congr rfl fun k _ => ?_
  rw [maskV_get]
  by_cases h : code (stepR W) (flatR W k.val) = b <;> simp [h]

theorem cntR_le (α : EReal) (Y : ℕ → EReal) (b : BitVec 32) : cntR α Y b ≤ 51380224 :=
  (card_filter_le _ _).trans (card_range _).le

/-- The chosen elements added up, whatever is read of them. -/
theorem chosen_sum (b : BitVec 32) (f : ℕ → EReal) (g : Fin 51380224 → EReal) (h : ∀ k, g k = f k.val) :
    (∑ k, Scalar.select (maskV W b (ix1 k)) (g k) (0 : EReal)) = ∑ p ∈ range 51380224, if code (stepR W) (flatR W p) = b then f p else 0 := by
  rw [sum_range]
  refine sum_congr rfl fun k _ => ?_
  rw [maskV_get, h]
  by_cases h : code (stepR W) (flatR W k.val) = b <;> simp [h, Scalar.select]

def meanV (b : BitVec 32) : Vec Ideal S_ .f32 :=
  Host.divf (Host.reduceAdd (select (maskV W b) (res_main_v0 W) (broadcastInDim S51380224 ![] bcast_S_S51380224 (id (constant S_ .f32 0x00000000#32)))) (constant S_ .f32 0x00000000#32) reducesTo_S51380224_S_d0 h_S_)
    (maximumf (sitofp .f32 (cntV W b)) (constant S_ .f32 0x3F800000#32))

theorem meanV_get (b : BitVec 32) : meanV W b ix0 = meanOf ((cntR (stepR W) (flatR W) b : ℝ) : EReal) (sumR (stepR W) (flatR W) b) := by
  unfold meanV
  simp only [id]
  pointwise
  rw [cntV_get, float_small _ (lt_of_le_of_lt (cntR_le _ _ _) (by norm_num)), chosen_sum W b (flatR W) _ fun k => v0_get W k]
  rfl

/-- The variance of the elements of level `b`. -/
def varV (b : BitVec 32) : Vec Ideal S_ .f32 :=
  Host.divf (Host.reduceAdd (select (maskV W b) (mulf (subf (res_main_v0 W) (broadcastInDim S51380224 ![] bcast_S_S51380224 (meanV W b)))
      (subf (res_main_v0 W) (broadcastInDim S51380224 ![] bcast_S_S51380224 (meanV W b))))
    (broadcastInDim S51380224 ![] bcast_S_S51380224 (id (constant S_ .f32 0x00000000#32)))) (constant S_ .f32 0x00000000#32) reducesTo_S51380224_S_d0 h_S_)
    (maximumf (sitofp .f32 (cntV W b)) (constant S_ .f32 0x3F800000#32))

def devR (α : EReal) (Y : ℕ → EReal) (b : BitVec 32) (μ : EReal) : EReal :=
  ∑ p ∈ range 51380224, if code α (Y p) = b then (Y p - μ) * (Y p - μ) else 0

theorem varV_get (b : BitVec 32) : varV W b ix0
    = Ideal.div (devR (stepR W) (flatR W) b (meanOf ((cntR (stepR W) (flatR W) b : ℝ) : EReal) (sumR (stepR W) (flatR W) b)))
      (max ((cntR (stepR W) (flatR W) b : ℝ) : EReal) 1) := by
  rw [← meanV_get]
  unfold varV
  simp only [id]
  pointwise
  rw [cntV_get, float_small _ (lt_of_le_of_lt (cntR_le _ _ _) (by norm_num)),
    chosen_sum W b (fun p => (flatR W p - meanV W b ix0) * (flatR W p - meanV W b ix0)) _ fun k => by rw [v0_get W k]]
  rfl

/-- The squared distance of a level's mean from it, if it has elements, and its variance, if it has two. -/
def mseV (b : BitVec 32) (l : Vec Ideal S_ .f32) : Vec Ideal S_ .f32 :=
  select (cmpi .sgt (cntV W b) (constantI S_ 32 0#32)) (mulf (F := Ideal) (φ := .f32) (subf (meanV W b) l) (subf (meanV W b) l)) (constant (F := Ideal) S_ .f32 0x00000000#32)
def ifTwoV (b : BitVec 32) : Vec Ideal S_ .f32 :=
  select (cmpi .sge (cntV W b) (constantI S_ 32 2#32)) (varV W b) (constant (F := Ideal) S_ .f32 0x00000000#32)

def varR (α : EReal) (Y : ℕ → EReal) (b : BitVec 32) : EReal :=
  if 2 ≤ cntR α Y b then Ideal.div (devR α Y b (meanOf ((cntR α Y b : ℝ) : EReal) (sumR α Y b))) (max ((cntR α Y b : ℝ) : EReal) 1) else 0

theorem select_true (a b : EReal) : Scalar.select (BitVec.ofBool true) a b = a := rfl
theorem select_false (a b : EReal) : Scalar.select (BitVec.ofBool false) a b = b := rfl

/-- Comparisons of small words. -/
theorem ge_small (a b : ℕ) (ha : a < 2 ^ 31) (hb : b < 2 ^ 31) :
    IntOp.cmpi .sge (BitVec.ofNat 32 a) (BitVec.ofNat 32 b) = BitVec.ofBool (decide (b ≤ a)) := by
  show BitVec.ofBool (BitVec.sle (BitVec.ofNat 32 b) (BitVec.ofNat 32 a)) = _
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp
theorem gt_small (a b : ℕ) (ha : a < 2 ^ 31) (hb : b < 2 ^ 31) :
    IntOp.cmpi .sgt (BitVec.ofNat 32 a) (BitVec.ofNat 32 b) = BitVec.ofBool (decide (b < a)) := by
  show BitVec.ofBool (BitVec.slt (BitVec.ofNat 32 b) (BitVec.ofNat 32 a)) = _
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem mseV_get (b : BitVec 32) (l : Vec Ideal S_ .f32) (x : EReal) (hl : l ix0 = x) :
    mseV W b l ix0 = mseOf ((cntR (stepR W) (flatR W) b : ℝ) : EReal) (sumR (stepR W) (flatR W) b) x := by
  unfold mseV mseOf
  pointwise
  rw [cntV_get, meanV_get, hl, gt_small _ 0 (lt_of_le_of_lt (cntR_le _ _ _) (by norm_num)) (by norm_num)]
  have e : (0 : EReal) < ((cntR (stepR W) (flatR W) b : ℝ) : EReal) ↔ 0 < cntR (stepR W) (flatR W) b := by
    rw [EReal.coe_pos, Nat.cast_pos]
  by_cases h : 0 < cntR (stepR W) (flatR W) b
  · rw [if_pos (e.2 h), decide_eq_true h, select_true]
  · rw [if_neg (fun q => h (e.1 q)), decide_eq_false h, select_false]

theorem ifTwoV_get (b : BitVec 32) : ifTwoV W b ix0 = varR (stepR W) (flatR W) b := by
  unfold ifTwoV varR
  pointwise
  rw [cntV_get, varV_get, ge_small _ 2 (lt_of_le_of_lt (cntR_le _ _ _) (by norm_num)) (by norm_num)]
  by_cases h : 2 ≤ cntR (stepR W) (flatR W) b
  · rw [if_pos h, decide_eq_true h, select_true]
  · rw [if_neg h, decide_eq_false h, select_false]

/-! ## The results -/

/-- Level `b` as a word. -/
abbrev word (b : Fin 4) : BitVec 32 := BitVec.ofNat 32 b.val

def msesR (α : EReal) (Y : ℕ → EReal) : EReal := ∑ b : Fin 4, mseOf ((cntR α Y (word b) : ℝ) : EReal) (sumR α Y (word b)) (level α b)
def varsR (α : EReal) (Y : ℕ → EReal) : EReal := ∑ b : Fin 4, varR α Y (word b)

/-- The level nearest to an element, the distance from it, and whether that is small. -/
def nearest (α x : EReal) : EReal := (((code α x).toInt : ℝ) : EReal) * α
def far (α x : EReal) : EReal := mag (x - nearest α x)

theorem v3_get (b : Fin 4) : (res_main_v3 W : Vec Ideal S4 .f32) (ix1 b) = level (stepR W) b := by
  unfold res_main_v3 level
  have e : ∀ k : ℕ, k < 4 → (FloatOps.sitofp .f32 (BitVec.ofNat 32 k) : Ideal .f32) = ((k : ℝ) : EReal) := fun k hk => float_small k (by omega)
  fin_cases b <;> pointwise
  exacts [congrArg (· * stepR W) (e 0 (by decide)), congrArg (· * stepR W) (e 1 (by decide)), congrArg (· * stepR W) (e 2 (by decide)),
    congrArg (· * stepR W) (e 3 (by decide))]

def lev0 : Vec Ideal S_ .f32 := shapeCast _ (extractStridedSlice S1 ![0] (res_main_v3 W) slices_S4_S1_0) shapeCasts_S1_S_
def lev1 : Vec Ideal S_ .f32 := shapeCast _ (extractStridedSlice S1 ![1] (res_main_v3 W) slices_S4_S1_1) shapeCasts_S1_S_
def lev2 : Vec Ideal S_ .f32 := shapeCast _ (extractStridedSlice S1 ![2] (res_main_v3 W) slices_S4_S1_2) shapeCasts_S1_S_
def lev3 : Vec Ideal S_ .f32 := shapeCast _ (extractStridedSlice S1 ![3] (res_main_v3 W) slices_S4_S1_3) shapeCasts_S1_S_

theorem lev0_get : lev0 W ix0 = level (stepR W) 0 := by
  unfold lev0; pointwise; exact v3_get W 0
theorem lev1_get : lev1 W ix0 = level (stepR W) 1 := by
  unfold lev1; pointwise; exact v3_get W 1
theorem lev2_get : lev2 W ix0 = level (stepR W) 2 := by
  unfold lev2; pointwise; exact v3_get W 2
theorem lev3_get : lev3 W ix0 = level (stepR W) 3 := by
  unfold lev3; pointwise; exact v3_get W 3

/-- Four scalars added up from zero. -/
def fourV (a b c d : Vec Ideal S_ .f32) : Vec Ideal S_ .f32 :=
  addf (F := Ideal) (φ := .f32) (addf (F := Ideal) (φ := .f32) (addf (F := Ideal) (φ := .f32) (addf (F := Ideal) (φ := .f32) (constant (F := Ideal) S_ .f32 0x00000000#32) a) b) c) d

theorem fourV_get (a b c d : Vec Ideal S_ .f32) (f : Fin 4 → EReal) (ha : a ix0 = f 0) (hb : b ix0 = f 1) (hc : c ix0 = f 2) (hd : d ix0 = f 3) :
    fourV a b c d = vec0 (∑ b, f b) := by
  refine eq_vec0 _ _ ?_
  unfold fourV
  pointwise
  rw [ha, hb, hc, hd, Fin.sum_univ_four]
  try simp

theorem ref_mse : fourV (mseV W 0#32 (lev0 W)) (mseV W 1#32 (lev1 W)) (mseV W 2#32 (lev2 W)) (mseV W 3#32 (lev3 W)) = vec0 (msesR (stepR W) (flatR W)) :=
  fourV_get _ _ _ _ _ (mseV_get W _ _ _ (lev0_get W)) (mseV_get W _ _ _ (lev1_get W)) (mseV_get W _ _ _ (lev2_get W)) (mseV_get W _ _ _ (lev3_get W))

theorem ref_var : fourV (ifTwoV W 0#32) (ifTwoV W 1#32) (ifTwoV W 2#32) (ifTwoV W 3#32) = vec0 (varsR (stepR W) (flatR W)) :=
  fourV_get _ _ _ _ _ (ifTwoV_get W _) (ifTwoV_get W _) (ifTwoV_get W _) (ifTwoV_get W _)

theorem v112_get (p : Fin 51380224) : (res_main_v112 W : Vec Ideal S51380224 .f32) (ix1 p) = nearest (stepR W) (flatR W p.val) := by
  unfold res_main_v112 nearest
  pointwise
  rw [v8_get]
  rfl

theorem v132_get (p : Fin 51380224) : (res_main_v132 W : Vec Ideal S51380224 .f32) (ix1 p) = flatR W p.val - nearest (stepR W) (flatR W p.val) := by
  unfold res_main_v132
  pointwise
  rw [v112_get, v0_get]

def sqsR (α : EReal) (Y : ℕ → EReal) : EReal := ∑ p ∈ range 51380224, (Y p - nearest α (Y p)) * (Y p - nearest α (Y p))
def farsR (α : EReal) (Y : ℕ → EReal) : EReal := ∑ p ∈ range 51380224, far α (Y p)
def nearsR (α : EReal) (Y : ℕ → EReal) : EReal := ∑ p ∈ range 51380224, if far α (Y p) < lit 0x3C23D70A#32 * α then (1 : EReal) else 0

theorem ref_sq : (Host.divf (Host.reduceAdd (mulf (res_main_v132 W) (res_main_v132 W)) (constant S_ .f32 0x00000000#32) reducesTo_S51380224_S_d0 h_S_) (constant S_ .f32 0x4C440000#32) : Vec Ideal S_ .f32)
    = vec0 (Ideal.div (sqsR (stepR W) (flatR W)) num) := by
  refine eq_vec0 _ _ ?_
  pointwise
  rw [sqsR, sum_range, sum_congr rfl fun k _ => by rw [v132_get]]

def farV : Vec Ideal S51380224 .f32 := Host.absf (F := Ideal) (φ := .f32) (subf (F := Ideal) (φ := .f32) (res_main_v0 W) (res_main_v112 W))
theorem farV_get (p : Fin 51380224) : farV W (ix1 p) = far (stepR W) (flatR W p.val) := by
  unfold farV
  pointwise
  rw [v112_get, v0_get]
  rfl

def meanFarV : Vec Ideal S_ .f32 :=
  Host.divf (F := Ideal) (φ := .f32) (Host.reduceAdd (farV W) (constant S_ .f32 0x00000000#32) reducesTo_S51380224_S_d0 h_S_) (constant S_ .f32 0x4C440000#32)
theorem meanFarV_get : meanFarV W = vec0 (Ideal.div (farsR (stepR W) (flatR W)) num) := by
  refine eq_vec0 _ _ ?_
  unfold meanFarV
  pointwise
  rw [farsR, sum_range, sum_congr rfl fun k _ => by rw [farV_get]]

/-- The effectiveness, clipped, and the share of the elements near a level. -/
def effV : Vec Ideal S_ .f32 :=
  minimumf (F := Ideal) (φ := .f32) (id (constant S_ .f32 0x42C80000#32)) (maximumf (id (constant S_ .f32 0x00000000#32)) (mulf (constant S_ .f32 0x42C80000#32) (subf (constant S_ .f32 0x3F800000#32) (Host.divf (meanFarV W) (addf (mulf (W (Proc.devRef .tc main_arg1)) (constant S_ .f32 0x3F000000#32)) (constant S_ .f32 0x2B8CBCCC#32))))))
def nearV : Vec Ideal S_ .f32 :=
  mulf (F := Ideal) (φ := .f32) (Host.divf (Host.reduceAdd (uitofp .f32 (cmpf (F := Ideal) (φ := .f32) .olt (farV W) (broadcastInDim S51380224 ![] bcast_S_S51380224 (mulf (F := Ideal) (φ := .f32) (constant S_ .f32 0x3C23D70A#32) (W (Proc.devRef .tc main_arg1)))))) (constant S_ .f32 0x00000000#32) reducesTo_S51380224_S_d0 h_S_) (constant S_ .f32 0x4C440000#32)) (constant S_ .f32 0x42C80000#32)

theorem ref_eff : effV W = vec0 (effOf (stepR W) (Ideal.div (farsR (stepR W) (flatR W)) num)) := by
  refine eq_vec0 _ _ ?_
  unfold effV
  rw [meanFarV_get]
  simp only [id]
  pointwise [vec0_get, effOf]
  try rfl

theorem ref_near : nearV W = vec0 (Ideal.div (nearsR (stepR W) (flatR W)) num * hundred) := by
  refine eq_vec0 _ _ ?_
  unfold nearV
  pointwise
  have e : ∀ k : Fin 51380224, (FloatOps.uitofp .f32 (BitVec.ofBool (decide (farV W (ix1 k) < Ideal.ofBits .f32 1008981770#32 * (W (Proc.devRef .tc main_arg1) : Vec Ideal S_ .f32) ix0))) : Ideal .f32)
      = if far (stepR W) (flatR W k.val) < lit 0x3C23D70A#32 * stepR W then (1 : EReal) else 0 := fun k => by
    rw [farV_get]
    by_cases h : far (stepR W) (flatR W k.val) < lit 0x3C23D70A#32 * stepR W
    · rw [if_pos h, decide_eq_true h]
      show (((BitVec.ofBool true).toNat : ℝ) : EReal) = 1
      simp [BitVec.ofBool]
    · rw [if_neg h, decide_eq_false h]
      show (((BitVec.ofBool false).toNat : ℝ) : EReal) = 0
      norm_num
  rw [nearsR, sum_range, sum_congr rfl fun k _ => e k]

variable (m : (ℓ : Loc nD τ sig) → Buf (Elt Ideal) ℓ) (ρ : Dev nD → PrngReg)

/-- The reference's step and its elements in order. -/
abbrev stepAt (c : Dev nD) : EReal := stepR (launchContents m c)
abbrev elemsAt (c : Dev nD) : ℕ → EReal := flatR (launchContents m c)

/-- The reference ends with these results and its arguments unchanged. -/
theorem ref_run : θ_run defs (onTc (τ := τ) (main (F := Ideal))) ⟨m, fun _ => 0, ρ⟩ fun r => ∀ c : Dev nD,
    r.2.mem ((c.tc : Thread nD τ).loc main_v109) = vec0 (msesR (stepAt m c) (elemsAt m c) + varsR (stepAt m c) (elemsAt m c))
      ∧ r.2.mem ((c.tc : Thread nD τ).loc main_v99) = vec0 (msesR (stepAt m c) (elemsAt m c))
      ∧ r.2.mem ((c.tc : Thread nD τ).loc main_v108) = vec0 (varsR (stepAt m c) (elemsAt m c))
      ∧ r.2.mem ((c.tc : Thread nD τ).loc main_v135) = vec0 (Ideal.div (sqsR (stepAt m c) (elemsAt m c)) num)
      ∧ r.2.mem ((c.tc : Thread nD τ).loc main_v116) = vec0 (Ideal.div (farsR (stepAt m c) (elemsAt m c)) num)
      ∧ r.2.mem ((c.tc : Thread nD τ).loc main_v122) = vec0 (effOf (stepAt m c) (Ideal.div (farsR (stepAt m c) (elemsAt m c)) num))
      ∧ r.2.mem ((c.tc : Thread nD τ).loc main_v131) = vec0 (Ideal.div (nearsR (stepAt m c) (elemsAt m c)) num * hundred)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono ?_ (Cert.ReferenceIdeal.Value.run m ρ)
  intro r h c
  obtain ⟨h109, h99, h108, h135, h116, h122, h131, h0, h1⟩ := h c
  refine ⟨?_, h99.trans (ref_mse _), h108.trans (ref_var _), h135.trans (ref_sq _), h116.trans (meanFarV_get _), h122.trans (ref_eff _), h131.trans (ref_near _), h0, h1⟩
  refine h109.trans ?_
  show addf (F := Ideal) (φ := .f32) (fourV (mseV _ 0#32 (lev0 _)) (mseV _ 1#32 (lev1 _)) (mseV _ 2#32 (lev2 _)) (mseV _ 3#32 (lev3 _)))
    (fourV (ifTwoV _ 0#32) (ifTwoV _ 1#32) (ifTwoV _ 2#32) (ifTwoV _ 3#32)) = _
  rw [ref_mse, ref_var]
  rfl

end Cert.Proof.Quant
-- ==== Proof.Bins.lean ====
/-
  Rounding an element to a level is counting the cuts that it is past.
-/
module

public import proofs.«01_k».proof.Proof.RefValue

@[expose] public section

noncomputable section

namespace Cert.Proof.Quant

open Idealize.ShloMosaic

/-! ## Literals -/

theorem lit_half : lit 0x3F000000#32 = ((1 / 2 : ℝ) : EReal) := by
  unfold lit; simp [Ideal.ofBits, Ideal.ieee, -EReal.coe_mul]; norm_num
theorem lit_cut2 : lit 0x3FC00000#32 = ((3 / 2 : ℝ) : EReal) := by
  unfold lit; simp [Ideal.ofBits, Ideal.ieee, -EReal.coe_mul]; norm_num
theorem lit_cut3 : lit 0x40200000#32 = ((5 / 2 : ℝ) : EReal) := by
  unfold lit; simp [Ideal.ofBits, Ideal.ieee, -EReal.coe_mul]; norm_num
theorem lit_two : two = ((2 : ℝ) : EReal) := by
  unfold two lit; simp [Ideal.ofBits, Ideal.ieee, -EReal.coe_mul]; norm_num
theorem lit_num : num = ((51380224 : ℝ) : EReal) := by
  unfold num lit; simp [Ideal.ofBits, Ideal.ieee, -EReal.coe_mul]; norm_num

/-! ## Rounding -/

/-- A number between 0 and 3 rounded to the nearest integer, a half to the even one. -/
theorem round_clipped (z : ℝ) (h0 : 0 ≤ z) (h3 : z ≤ 3) :
    Ideal.roundHalfEven z = if z ≤ 1 / 2 then 0 else if z < 3 / 2 then 1 else if z ≤ 5 / 2 then 2 else 3 := by
  have key : ∀ k : ℤ, (k : ℝ) ≤ z → z < k + 1 → Ideal.roundHalfEven z = if z - k < 1 / 2 then k else if 1 / 2 < z - k then k + 1 else if Even k then k else k + 1 := by
    intro k h1 h2
    have e : ⌊z⌋ = k := Int.floor_eq_iff.2 ⟨h1, h2⟩
    simp only [Ideal.roundHalfEven, e]
  rcases lt_or_ge z 1 with a | a
  · rw [key 0 (by simpa using h0) (by simpa using a)]
    norm_num
    split_ifs <;> first | rfl | (exfalso; linarith)
  rcases lt_or_ge z 2 with b | b
  · rw [key 1 (by simpa using a) (by norm_num; linarith)]
    norm_num
    split_ifs <;> first | rfl | (exfalso; linarith)
  rcases lt_or_ge z 3 with c | c
  · rw [key 2 (by simpa using b) (by norm_num; linarith)]
    norm_num
    split_ifs <;> first | rfl | (exfalso; linarith) | (exfalso; revert ‹¬ Even (2 : ℤ)›; decide)
  · have e : z = 3 := le_antisymm h3 c
    subst e
    rw [key 3 (by norm_num) (by norm_num)]
    norm_num

/-- The word of a small integer that a rounded number is. -/
theorem word_of_int (k : ℕ) (h : k ≤ 3) : Ideal.fptosi 32 ((((k : ℤ) : ℝ)) : EReal) = BitVec.ofNat 32 k := by
  show BitVec.ofInt 32 (max _ (min _ (if (0 : ℝ) ≤ ((k : ℤ) : ℝ) then ⌊((k : ℤ) : ℝ)⌋ else ⌈((k : ℤ) : ℝ)⌉))) = _
  rw [if_pos (by positivity), Int.floor_intCast]
  interval_cases k <;> decide

/-- The level that the reference rounds to, when the step is a number. -/
theorem code_coe (a y : ℝ) (ha : 0 < a) : code (a : EReal) (y : EReal)
    = if y ≤ a * (1 / 2) then 0#32 else if y < a * (3 / 2) then 1#32 else if y ≤ a * (5 / 2) then 2#32 else 3#32 := by
  have e : min ((3 : ℝ) : EReal) (max ((0 : ℝ) : EReal) (Ideal.div (y : EReal) (a : EReal))) = ((min 3 (max 0 (y / a)) : ℝ) : EReal) := by
    rw [Ideal.div_coe ha.ne', ← EReal.coe_mul, show y * (1 / a) = y / a by ring, EReal.coe_strictMono.monotone.map_min, EReal.coe_strictMono.monotone.map_max]
  unfold code
  rw [e]
  show Ideal.fptosi 32 (((Ideal.roundHalfEven (min 3 (max 0 (y / a))) : ℤ) : ℝ) : EReal) = _
  rw [round_clipped _ (le_min (by norm_num) (le_max_left _ _)) (min_le_left _ _)]
  have h1 : min 3 (max 0 (y / a)) ≤ 1 / 2 ↔ y ≤ a * (1 / 2) := by
    rw [min_le_iff, max_le_iff, div_le_iff₀ ha, mul_comm]
    constructor
    · rintro (h | ⟨-, h⟩)
      · norm_num at h
      · exact h
    · exact fun h => Or.inr ⟨by norm_num, h⟩
  have h2 : min 3 (max 0 (y / a)) < 3 / 2 ↔ y < a * (3 / 2) := by
    rw [min_lt_iff, max_lt_iff, div_lt_iff₀ ha, mul_comm]
    constructor
    · rintro (h | ⟨-, h⟩)
      · norm_num at h
      · exact h
    · exact fun h => Or.inr ⟨by norm_num, h⟩
  have h3 : min 3 (max 0 (y / a)) ≤ 5 / 2 ↔ y ≤ a * (5 / 2) := by
    rw [min_le_iff, max_le_iff, div_le_iff₀ ha, mul_comm]
    constructor
    · rintro (h | ⟨-, h⟩)
      · norm_num at h
      · exact h
    · exact fun h => Or.inr ⟨by norm_num, h⟩
  simp only [h1, h2, h3]
  split_ifs
  · exact word_of_int 0 (by norm_num)
  · exact word_of_int 1 (by norm_num)
  · exact word_of_int 2 (by norm_num)
  · exact word_of_int 3 (by norm_num)

/-- When the step is infinite every number rounds to the lowest level. -/
theorem code_top (y : ℝ) : code ⊤ (y : EReal) = 0#32 := by
  have e : Ideal.div (y : EReal) ⊤ = ((0 : ℝ) : EReal) := by
    unfold Ideal.div
    rw [if_neg (by simp), EReal.inv_top, mul_zero, EReal.coe_zero]
  unfold code
  rw [e, max_self, min_eq_right (by norm_num)]
  show Ideal.fptosi 32 (((Ideal.roundHalfEven 0 : ℤ) : ℝ) : EReal) = _
  rw [round_clipped 0 le_rfl (by norm_num), if_pos (by norm_num)]
  exact word_of_int 0 (by norm_num)

/-- The four levels: which word, which cuts are passed. -/
def InBin (α x : EReal) : Prop :=
  (code α x = 0#32 ∧ cut1 α x = 0 ∧ cut2 α x = 0 ∧ cut3 α x = 0) ∨ (code α x = 1#32 ∧ cut1 α x = 1 ∧ cut2 α x = 0 ∧ cut3 α x = 0)
    ∨ (code α x = 2#32 ∧ cut1 α x = 1 ∧ cut2 α x = 1 ∧ cut3 α x = 0) ∨ (code α x = 3#32 ∧ cut1 α x = 1 ∧ cut2 α x = 1 ∧ cut3 α x = 1)

/-- The cuts when the step is infinite. -/
theorem cuts_top (y : ℝ) : cut1 ⊤ (y : EReal) = 0 ∧ cut2 ⊤ (y : EReal) = 0 ∧ cut3 ⊤ (y : EReal) = 0 := by
  unfold cut1 cut2 cut3
  rw [lit_half, lit_cut2, lit_cut3, EReal.top_mul_coe_of_pos (by norm_num), EReal.top_mul_coe_of_pos (by norm_num), EReal.top_mul_coe_of_pos (by norm_num)]
  refine ⟨if_neg (not_lt.2 le_top), if_neg ?_, if_neg (not_lt.2 le_top)⟩
  exact not_le.2 (EReal.coe_lt_top y)

/-- The cuts when it is a number. -/
theorem cuts_coe (a y : ℝ) : cut1 (a : EReal) (y : EReal) = (if a * (1 / 2) < y then 1 else 0) ∧ cut2 (a : EReal) (y : EReal) = (if a * (3 / 2) ≤ y then 1 else 0)
    ∧ cut3 (a : EReal) (y : EReal) = (if a * (5 / 2) < y then 1 else 0) := by
  unfold cut1 cut2 cut3
  rw [lit_half, lit_cut2, lit_cut3]
  simp only [← EReal.coe_mul, EReal.coe_lt_coe_iff, EReal.coe_le_coe_iff, and_self]

/-- An element lies in one of the four. -/
theorem inBin (α : EReal) (hα : 0 < α) (y : ℝ) : InBin α (y : EReal) := by
  induction α using EReal.rec with
  | bot => simp at hα
  | top => exact Or.inl ⟨code_top y, cuts_top y⟩
  | coe a =>
    have ha : 0 < a := EReal.coe_pos.1 hα
    obtain ⟨c1, c2, c3⟩ := cuts_coe a y
    unfold InBin
    rw [c1, c2, c3, code_coe a y ha]
    by_cases h1 : y ≤ a * (1 / 2)
    · left
      rw [if_pos h1, if_neg (not_lt.2 h1), if_neg (by nlinarith), if_neg (by nlinarith)]
      exact ⟨rfl, rfl, rfl, rfl⟩
    by_cases h2 : y < a * (3 / 2)
    · right; left
      rw [if_neg h1, if_pos h2, if_pos (not_le.1 h1), if_neg (not_le.2 h2), if_neg (by nlinarith)]
      exact ⟨rfl, rfl, rfl, rfl⟩
    by_cases h3 : y ≤ a * (5 / 2)
    · right; right; left
      rw [if_neg h1, if_neg h2, if_pos h3, if_pos (not_le.1 h1), if_pos (not_lt.1 h2), if_neg (not_lt.2 h3)]
      exact ⟨rfl, rfl, rfl, rfl⟩
    · right; right; right
      rw [if_neg h1, if_neg h2, if_neg h3, if_pos (not_le.1 h1), if_pos (not_lt.1 h2), if_pos (not_le.1 h3)]
      exact ⟨rfl, rfl, rfl, rfl⟩

end Cert.Proof.Quant
-- ==== Proof.Levels.lean ====
/-
  The totals that the kernel keeps and the sums that the reference takes, level by level, are the same real numbers.
-/
module

public import proofs.«01_k».proof.Proof.Bins

@[expose] public section

noncomputable section

namespace Cert.Proof.Quant

open Idealize.ShloMosaic
open Finset

/-- A sum of real numbers, taken among the extended ones. -/
theorem sum_real (s : Finset ℕ) (f : ℕ → EReal) (g : ℕ → ℝ) (h : ∀ p, f p = (g p : EReal)) : ∑ p ∈ s, f p = ((∑ p ∈ s, g p : ℝ) : EReal) := by
  classical
  induction s using Finset.induction_on with
  | empty => simp
  | insert a s ha ih => rw [sum_insert ha, sum_insert ha, ih, h, EReal.coe_add]

variable (α : EReal) (y : ℕ → ℝ)

/-- Whether element `p` has level `b`. -/
def ind (b : BitVec 32) (p : ℕ) : ℝ := if code α (y p : EReal) = b then 1 else 0

/-- The number, the sum and the sum of squares of the elements of level `b`. -/
def cR (s : Finset ℕ) (b : BitVec 32) : ℝ := ∑ p ∈ s, ind α y b p
def sR (s : Finset ℕ) (b : BitVec 32) : ℝ := ∑ p ∈ s, ind α y b p * y p
def qR (s : Finset ℕ) (b : BitVec 32) : ℝ := ∑ p ∈ s, ind α y b p * (y p * y p)

/-- The indicators of an element of each level, and its cuts. -/
theorem ind_cases (hα : 0 < α) (p : ℕ) :
    ∃ a b c : ℝ, cut1 α (y p : EReal) = (a : EReal) ∧ cut2 α (y p : EReal) = (b : EReal) ∧ cut3 α (y p : EReal) = (c : EReal)
      ∧ ind α y 0#32 p = 1 - a ∧ ind α y 1#32 p = a - b ∧ ind α y 2#32 p = b - c ∧ ind α y 3#32 p = c := by
  unfold ind
  rcases inBin α hα (y p) with ⟨e, h1, h2, h3⟩ | ⟨e, h1, h2, h3⟩ | ⟨e, h1, h2, h3⟩ | ⟨e, h1, h2, h3⟩ <;> rw [e, h1, h2, h3]
  · exact ⟨0, 0, 0, by norm_num; decide⟩
  · exact ⟨1, 0, 0, by norm_num; decide⟩
  · exact ⟨1, 1, 0, by norm_num; decide⟩
  · exact ⟨1, 1, 1, by norm_num; decide⟩

/-- The moments of an element by its indicators. -/
theorem mom_ind (hα : 0 < α) (p : ℕ) :
    mom 0 α (y p) = ((ind α y 1#32 p + ind α y 2#32 p + ind α y 3#32 p : ℝ) : EReal)
    ∧ mom 1 α (y p) = ((ind α y 2#32 p + ind α y 3#32 p : ℝ) : EReal)
    ∧ mom 2 α (y p) = ((ind α y 3#32 p : ℝ) : EReal)
    ∧ mom 3 α (y p) = (((ind α y 0#32 p + ind α y 1#32 p + ind α y 2#32 p + ind α y 3#32 p) * y p : ℝ) : EReal)
    ∧ mom 4 α (y p) = (((ind α y 1#32 p + ind α y 2#32 p + ind α y 3#32 p) * y p : ℝ) : EReal)
    ∧ mom 5 α (y p) = (((ind α y 2#32 p + ind α y 3#32 p) * y p : ℝ) : EReal)
    ∧ mom 6 α (y p) = ((ind α y 3#32 p * y p : ℝ) : EReal)
    ∧ mom 7 α (y p) = (((ind α y 0#32 p + ind α y 1#32 p + ind α y 2#32 p + ind α y 3#32 p) * (y p * y p) : ℝ) : EReal)
    ∧ mom 8 α (y p) = (((ind α y 1#32 p + ind α y 2#32 p + ind α y 3#32 p) * (y p * y p) : ℝ) : EReal)
    ∧ mom 9 α (y p) = (((ind α y 2#32 p + ind α y 3#32 p) * (y p * y p) : ℝ) : EReal)
    ∧ mom 10 α (y p) = ((ind α y 3#32 p * (y p * y p) : ℝ) : EReal) := by
  obtain ⟨a, b, c, h1, h2, h3, i0, i1, i2, i3⟩ := ind_cases α y hα p
  simp only [mom, h1, h2, h3, i0, i1, i2, i3, ← EReal.coe_mul, EReal.coe_eq_coe_iff]
  refine ⟨?_, ?_, ?_, ?_, ?_, ?_, ?_, ?_, ?_, ?_, ?_⟩ <;> first | exact True.intro | ring

theorem ind_sum (hα : 0 < α) (p : ℕ) : ind α y 0#32 p + ind α y 1#32 p + ind α y 2#32 p + ind α y 3#32 p = 1 := by
  obtain ⟨a, b, c, -, -, -, i0, i1, i2, i3⟩ := ind_cases α y hα p
  rw [i0, i1, i2, i3]; ring

/-- The levels' counts, sums and sums of squares, of the kernel's totals. -/
theorem levels_of_totals (hα : 0 < α) (b : Fin 4) :
    cntOf (fun k => total k α fun p => (y p : EReal)) b = ((cR α y (range 51380224) (word b) : ℝ) : EReal)
    ∧ sumOf (fun k => total k α fun p => (y p : EReal)) b = ((sR α y (range 51380224) (word b) : ℝ) : EReal)
    ∧ sqOf (fun k => total k α fun p => (y p : EReal)) b = ((qR α y (range 51380224) (word b) : ℝ) : EReal) := by
  have hn : num = ((∑ p ∈ range 51380224, (ind α y 0#32 p + ind α y 1#32 p + ind α y 2#32 p + ind α y 3#32 p) : ℝ) : EReal) := by
    rw [sum_congr rfl fun p _ => ind_sum α y hα p, sum_const, card_range, lit_num]
    norm_num
  have ht : ∀ (k : ℕ) (g : ℕ → ℝ), (∀ p, mom k α (y p) = (g p : EReal)) → total k α (fun p => (y p : EReal)) = ((∑ p ∈ range 51380224, g p : ℝ) : EReal) :=
    fun k g h => sum_real _ _ g h
  have t0 := ht 0 _ fun p => (mom_ind α y hα p).1
  have t1 := ht 1 _ fun p => (mom_ind α y hα p).2.1
  have t2 := ht 2 _ fun p => (mom_ind α y hα p).2.2.1
  have t3 := ht 3 _ fun p => (mom_ind α y hα p).2.2.2.1
  have t4 := ht 4 _ fun p => (mom_ind α y hα p).2.2.2.2.1
  have t5 := ht 5 _ fun p => (mom_ind α y hα p).2.2.2.2.2.1
  have t6 := ht 6 _ fun p => (mom_ind α y hα p).2.2.2.2.2.2.1
  have t7 := ht 7 _ fun p => (mom_ind α y hα p).2.2.2.2.2.2.2.1
  have t8 := ht 8 _ fun p => (mom_ind α y hα p).2.2.2.2.2.2.2.2.1
  have t9 := ht 9 _ fun p => (mom_ind α y hα p).2.2.2.2.2.2.2.2.2.1
  have t10 := ht 10 _ fun p => (mom_ind α y hα p).2.2.2.2.2.2.2.2.2.2
  unfold cR sR qR
  generalize range 51380224 = s at *
  fin_cases b <;>
    (simp only [cntOf, sumOf, sqOf, t0, t1, t2, t3, t4, t5, t6, t7, t8, t9, t10, hn, ← EReal.coe_sub, EReal.coe_eq_coe_iff, ← sum_sub_distrib, word]
     refine ⟨?_, ?_, ?_⟩ <;> first | exact True.intro | exact sum_congr rfl fun p _ => by ring)

/-- The reference's counts and sums. -/
theorem cntR_real (b : BitVec 32) : (cntR α (fun p => (y p : EReal)) b : ℝ) = cR α y (range 51380224) b := by
  unfold cntR cR ind
  generalize range 51380224 = s
  rw [card_filter]
  push_cast
  rfl

theorem sumR_real (b : BitVec 32) : sumR α (fun p => (y p : EReal)) b = ((sR α y (range 51380224) b : ℝ) : EReal) := by
  unfold sumR sR ind
  refine sum_real _ _ _ fun p => ?_
  by_cases h : code α (y p : EReal) = b
  · rw [if_pos h, if_pos h, one_mul]
  · rw [if_neg h, if_neg h, zero_mul, EReal.coe_zero]

/-- The squared distances of a level's elements from a number. -/
theorem devR_real (b : BitVec 32) (μ : ℝ) : devR α (fun p => (y p : EReal)) b μ
    = ((qR α y (range 51380224) b - 2 * μ * sR α y (range 51380224) b + cR α y (range 51380224) b * μ * μ : ℝ) : EReal) := by
  unfold devR
  rw [sum_real _ _ (fun p => ind α y b p * (y p * y p) - 2 * μ * (ind α y b p * y p) + ind α y b p * (μ * μ)) fun p => ?_]
  · unfold qR sR cR
    generalize range 51380224 = s
    rw [sum_add_distrib, sum_sub_distrib, ← mul_sum, ← sum_mul, mul_assoc (∑ p ∈ s, ind α y b p)]
  · unfold ind
    by_cases h : code α (y p : EReal) = b
    · simp only [if_pos h, ← EReal.coe_sub, ← EReal.coe_mul, EReal.coe_eq_coe_iff]; ring
    · simp only [if_neg h]; norm_num

/-! ## The equations -/

theorem mse_eq (hα : 0 < α) : totalMse α (fun k => total k α fun p => (y p : EReal)) = msesR α fun p => (y p : EReal) := by
  unfold totalMse msesR
  refine sum_congr rfl fun b _ => ?_
  obtain ⟨h1, h2, -⟩ := levels_of_totals α y hα b
  rw [h1, h2, cntR_real, sumR_real]

/-- The mean of a level's elements is a real number. -/
theorem meanOf_real (c s : ℝ) : meanOf (c : EReal) (s : EReal) = ((s / max c 1 : ℝ) : EReal) := by
  unfold meanOf
  rw [← EReal.coe_one, ← EReal.coe_strictMono.monotone.map_max, Ideal.div_coe (lt_of_lt_of_le one_pos (le_max_right _ _)).ne', ← EReal.coe_mul, mul_one_div]

/-- The variance by second moments is the variance by distances. -/
theorem varOf_real (b : BitVec 32) : varOf ((cR α y (range 51380224) b : ℝ) : EReal) ((sR α y (range 51380224) b : ℝ) : EReal) ((qR α y (range 51380224) b : ℝ) : EReal)
    = varR α (fun p => (y p : EReal)) b := by
  unfold varOf varR
  rw [cntR_real, sumR_real, meanOf_real, devR_real, lit_two]
  have e : (2 : ℝ) ≤ cR α y (range 51380224) b ↔ 2 ≤ cntR α (fun p => (y p : EReal)) b := by
    rw [← cntR_real]; exact Nat.ofNat_le_cast
  by_cases h : 2 ≤ cntR α (fun p => (y p : EReal)) b
  · rw [if_pos h, if_pos (EReal.coe_le_coe_iff.2 (e.2 h))]
    simp only [← EReal.coe_mul, ← EReal.coe_sub, ← EReal.coe_add]
  · rw [if_neg h, if_neg (fun q => h (e.1 (EReal.coe_le_coe_iff.1 q)))]

theorem var_eq (hα : 0 < α) : totalVar (fun k => total k α fun p => (y p : EReal)) = varsR α fun p => (y p : EReal) := by
  unfold totalVar varsR
  refine sum_congr rfl fun b _ => ?_
  obtain ⟨h1, h2, h3⟩ := levels_of_totals α y hα b
  rw [h1, h2, h3, varOf_real]

/-- The level that the reference gives an element. -/
theorem nearest_eq (hα : 0 < α) (p : ℕ) : nearest α (y p : EReal) = α * (cut1 α (y p : EReal) + cut2 α (y p : EReal) + cut3 α (y p : EReal)) := by
  unfold nearest
  rw [mul_comm]
  congr 1
  rcases inBin α hα (y p) with ⟨e, h1, h2, h3⟩ | ⟨e, h1, h2, h3⟩ | ⟨e, h1, h2, h3⟩ | ⟨e, h1, h2, h3⟩ <;> rw [e, h1, h2, h3]
  · norm_num
  · norm_num
  · norm_num [BitVec.toInt]
    norm_cast
  · norm_num [BitVec.toInt]
    norm_cast

theorem far_eq (hα : 0 < α) (p : ℕ) : far α (y p : EReal) = dist α (y p : EReal) := by
  unfold far dist
  rw [nearest_eq α y hα]

theorem fars_eq (hα : 0 < α) : total 11 α (fun p => (y p : EReal)) = farsR α fun p => (y p : EReal) :=
  sum_congr rfl fun p _ => (far_eq α y hα p).symm

theorem nears_eq (hα : 0 < α) : total 12 α (fun p => (y p : EReal)) = nearsR α fun p => (y p : EReal) := by
  refine sum_congr rfl fun p _ => ?_
  rw [far_eq α y hα p, mul_comm (lit _)]
  rfl

/-- The squared errors, when the step is a number, -/
theorem sq_coe (a : ℝ) (ha : 0 < (a : EReal)) : quantMse a (fun k => total k a fun p => (y p : EReal)) = Ideal.div (sqsR a fun p => (y p : EReal)) num := by
  unfold quantMse
  refine congrArg (fun z => Ideal.div z num) ?_
  have hs : sqsR a (fun p => (y p : EReal)) = ((∑ p ∈ range 51380224, ∑ b : Fin 4, ind a y (word b) p * ((y p - b.val * a) * (y p - b.val * a)) : ℝ) : EReal) := by
    refine sum_real _ _ _ fun p => ?_
    rw [Fin.sum_univ_four]
    unfold nearest ind
    rcases inBin (a : EReal) ha (y p) with ⟨e, -⟩ | ⟨e, -⟩ | ⟨e, -⟩ | ⟨e, -⟩ <;> simp only [e, word] <;>
      simp only [← EReal.coe_mul, ← EReal.coe_sub, EReal.coe_eq_coe_iff] <;> norm_num [BitVec.toInt] <;> simp (decide := true)
  have hb : ∀ b : Fin 4, errOf (cntOf (fun k => total k a fun p => (y p : EReal)) b) (sumOf (fun k => total k a fun p => (y p : EReal)) b)
      (sqOf (fun k => total k a fun p => (y p : EReal)) b) (level a b)
      = ((∑ p ∈ range 51380224, ind a y (word b) p * ((y p - b.val * a) * (y p - b.val * a)) : ℝ) : EReal) := fun b => by
    obtain ⟨h1, h2, h3⟩ := levels_of_totals a y ha b
    unfold errOf level
    rw [h1, h2, h3, lit_two]
    simp only [← EReal.coe_mul, ← EReal.coe_sub, ← EReal.coe_add, EReal.coe_eq_coe_iff]
    unfold cR sR qR
    generalize range 51380224 = s
    rw [mul_sum, sum_mul, sum_mul, ← sum_sub_distrib, ← sum_add_distrib]
    exact sum_congr rfl fun p _ => by ring
  rw [hs, sum_congr rfl fun b _ => hb b]
  generalize range 51380224 = s
  rw [sum_comm, Fin.sum_univ_four, Fin.sum_univ_four, EReal.coe_add, EReal.coe_add, EReal.coe_add]

/-- and when it is infinite. -/
theorem sq_top : quantMse ⊤ (fun k => total k ⊤ fun p => (y p : EReal)) = Ideal.div (sqsR ⊤ fun p => (y p : EReal)) num := by
  unfold quantMse
  refine congrArg (fun z => Ideal.div z num) ?_
  have hi : ∀ b : BitVec 32, b ≠ 0#32 → ∀ p, ind ⊤ y b p = 0 := fun b hb p => by
    unfold ind
    rw [code_top, if_neg (Ne.symm hb)]
  have h0 : ∀ p, ind ⊤ y 0#32 p = 1 := fun p => by
    unfold ind
    rw [code_top, if_pos rfl]
  have hz : ∀ b : Fin 4, b ≠ 0 → errOf (cntOf (fun k => total k ⊤ fun p => (y p : EReal)) b) (sumOf (fun k => total k ⊤ fun p => (y p : EReal)) b)
      (sqOf (fun k => total k ⊤ fun p => (y p : EReal)) b) (level ⊤ b) = 0 := fun b hb => by
    have hw : word b ≠ 0#32 := by
      revert hb; revert b; decide
    obtain ⟨h1, h2, h3⟩ := levels_of_totals ⊤ y EReal.zero_lt_top b
    unfold errOf
    rw [h1, h2, h3]
    unfold cR sR qR
    simp only [hi _ hw, zero_mul, sum_const_zero, EReal.coe_zero, mul_zero, sub_zero, add_zero]
  rw [Fin.sum_univ_four, hz 1 (by decide), hz 2 (by decide), hz 3 (by decide), add_zero, add_zero, add_zero]
  obtain ⟨h1, h2, h3⟩ := levels_of_totals ⊤ y EReal.zero_lt_top 0
  unfold errOf level sqsR
  rw [h3, sum_real _ _ (fun p => y p * y p) fun p => by unfold nearest; rw [code_top]; norm_num]
  unfold qR
  simp only [word, Fin.val_zero, Nat.cast_zero, EReal.coe_zero, zero_mul, mul_zero, sub_zero, add_zero, h0, one_mul]

theorem sq_eq (hα : 0 < α) : quantMse α (fun k => total k α fun p => (y p : EReal)) = Ideal.div (sqsR α fun p => (y p : EReal)) num := by
  induction α using EReal.rec with
  | bot => simp at hα
  | top => exact sq_top y
  | coe a => exact sq_coe y a hα

end Cert.Proof.Quant
-- ==== Proof.Zero.lean ====
/-
  A step of zero. The kernel's second cut then counts the zeros, which its first does not: it takes them from level 1 and gives them
  to level 2. Their sums are zero and so is the level, so that no result sees them.
-/
module

public import proofs.«01_k».proof.Proof.Levels

@[expose] public section

noncomputable section

namespace Cert.Proof.Quant

open Idealize.ShloMosaic
open Finset

variable (y : ℕ → ℝ)

/-- With a step of zero a positive number rounds to the highest level and any other to the lowest. -/
theorem code_zero (x : ℝ) : code 0 (x : EReal) = if 0 < x then 3#32 else 0#32 := by
  have r : ∀ z : ℝ, Ideal.liftRound Ideal.roundHalfEven (z : EReal) = (((Ideal.roundHalfEven z : ℤ) : ℝ) : EReal) := fun z => rfl
  unfold code Ideal.div
  by_cases h : 0 < x
  · rw [if_pos rfl, if_pos (EReal.coe_pos.2 h), if_pos h, max_eq_right le_top, min_eq_left le_top, r, round_clipped 3 (by norm_num) le_rfl]
    norm_num
    exact word_of_int 3 (by norm_num)
  · rw [if_pos rfl, if_neg (fun q => h (EReal.coe_pos.1 q)), if_neg h, max_eq_left bot_le, min_eq_right (EReal.coe_le_coe_iff.2 (by norm_num)), r,
      round_clipped 0 le_rfl (by norm_num), if_pos (by norm_num)]
    exact word_of_int 0 (by norm_num)

/-- Whether an element is zero. -/
def isZero (p : ℕ) : ℝ := if y p = 0 then 1 else 0
theorem isZero_mul (p : ℕ) : isZero y p * y p = 0 := by
  unfold isZero
  by_cases h : y p = 0
  · rw [h, mul_zero]
  · rw [if_neg h, zero_mul]

/-- No element has a level between, and the cuts of one are its indicator for the highest level, the second the zeros as well. -/
theorem zero_cases (p : ℕ) :
    ind 0 y 1#32 p = 0 ∧ ind 0 y 2#32 p = 0 ∧ ind 0 y 0#32 p = 1 - ind 0 y 3#32 p
      ∧ cut1 0 (y p : EReal) = (ind 0 y 3#32 p : EReal) ∧ cut2 0 (y p : EReal) = ((ind 0 y 3#32 p + isZero y p : ℝ) : EReal) ∧ cut3 0 (y p : EReal) = (ind 0 y 3#32 p : EReal) := by
  unfold ind isZero cut1 cut2 cut3
  rw [code_zero, zero_mul, zero_mul, zero_mul]
  simp only [EReal.coe_pos, EReal.coe_nonneg]
  rcases lt_trichotomy (y p) 0 with h | h | h
  · rw [if_neg h.not_gt, if_neg h.not_gt, if_neg h.not_ge, if_neg h.ne]
    simp (decide := true)
  · rw [h, if_neg (lt_irrefl _), if_neg (lt_irrefl _), if_pos le_rfl, if_pos rfl]
    simp (decide := true)
  · rw [if_pos h, if_pos h, if_pos h.le, if_neg h.ne']
    simp (decide := true)

/-- The levels between have nothing. -/
theorem between_none (b : Fin 4) (h0 : b ≠ 0) (h3 : b ≠ 3) (s : Finset ℕ) : cR 0 y s (word b) = 0 ∧ sR 0 y s (word b) = 0 ∧ qR 0 y s (word b) = 0 := by
  have h : ∀ p, ind 0 y (word b) p = 0 := fun p => by
    fin_cases b
    · exact absurd rfl h0
    · exact (zero_cases y p).1
    · exact (zero_cases y p).2.1
    · exact absurd rfl h3
  unfold cR sR qR
  simp only [h, zero_mul, sum_const_zero, and_self]

/-- What the kernel takes from level 1 and gives to level 2. -/
def moved (z : ℝ) (b : Fin 4) : ℝ := match b with | 0 => 0 | 1 => -z | 2 => z | 3 => 0

/-- The levels' counts, the zeros moved, and their sums and sums of squares, of the kernel's totals. -/
theorem levels_zero : ∃ z : ℝ, ∀ b : Fin 4,
    cntOf (fun k => total k 0 fun p => (y p : EReal)) b = ((cR 0 y (range 51380224) (word b) + moved z b : ℝ) : EReal)
    ∧ sumOf (fun k => total k 0 fun p => (y p : EReal)) b = ((sR 0 y (range 51380224) (word b) : ℝ) : EReal)
    ∧ sqOf (fun k => total k 0 fun p => (y p : EReal)) b = ((qR 0 y (range 51380224) (word b) : ℝ) : EReal) := by
  refine ⟨∑ p ∈ range 51380224, isZero y p, fun b => ?_⟩
  have hn : num = ((∑ p ∈ range 51380224, (1 : ℝ) : ℝ) : EReal) := by
    rw [sum_const, card_range, lit_num]
    norm_num
  have ht : ∀ (k : ℕ) (g : ℕ → ℝ), (∀ p, mom k 0 (y p) = (g p : EReal)) → total k 0 (fun p => (y p : EReal)) = ((∑ p ∈ range 51380224, g p : ℝ) : EReal) :=
    fun k g h => sum_real _ _ g h
  have c1 := fun p => (zero_cases y p).2.2.2.1
  have c2 := fun p => (zero_cases y p).2.2.2.2.1
  have c3 := fun p => (zero_cases y p).2.2.2.2.2
  have m0 : ∀ p, y p * (ind 0 y 3#32 p + isZero y p) = y p * ind 0 y 3#32 p := fun p => by linear_combination isZero_mul y p
  have t0 := ht 0 _ c1
  have t1 := ht 1 _ c2
  have t2 := ht 2 _ c3
  have t3 := ht 3 y fun p => rfl
  have t4 := ht 4 (fun p => y p * ind 0 y 3#32 p) fun p => by simp only [mom, c1, ← EReal.coe_mul]
  have t5 := ht 5 (fun p => y p * ind 0 y 3#32 p) fun p => by simp only [mom, c2, ← EReal.coe_mul, m0]
  have t6 := ht 6 (fun p => y p * ind 0 y 3#32 p) fun p => by simp only [mom, c3, ← EReal.coe_mul]
  have t7 := ht 7 (fun p => y p * y p) fun p => rfl
  have t8 := ht 8 (fun p => y p * ind 0 y 3#32 p * y p) fun p => by simp only [mom, c1, ← EReal.coe_mul]
  have t9 := ht 9 (fun p => y p * ind 0 y 3#32 p * y p) fun p => by simp only [mom, c2, ← EReal.coe_mul, m0]
  have t10 := ht 10 (fun p => y p * ind 0 y 3#32 p * y p) fun p => by simp only [mom, c3, ← EReal.coe_mul]
  have i1 := fun p => (zero_cases y p).1
  have i2 := fun p => (zero_cases y p).2.1
  have i0 := fun p => (zero_cases y p).2.2.1
  unfold cR sR qR
  generalize range 51380224 = s at *
  fin_cases b <;>
    (simp only [cntOf, sumOf, sqOf, t0, t1, t2, t3, t4, t5, t6, t7, t8, t9, t10, hn, ← EReal.coe_sub, EReal.coe_eq_coe_iff, ← sum_sub_distrib, ← sum_neg_distrib,
       ← sum_add_distrib, word, moved, i0, i1, i2, add_zero]
     refine ⟨?_, ?_, ?_⟩ <;> first | exact True.intro | exact sum_congr rfl fun p _ => by ring)

/-! ## Without a sum, a level adds nothing, whatever its count -/

theorem level_zero (b : Fin 4) : level 0 b = 0 := mul_zero _

theorem meanOf_none (c : ℝ) : meanOf (c : EReal) 0 = 0 := by
  rw [← EReal.coe_zero, meanOf_real, zero_div]

theorem mseOf_none (c : ℝ) : mseOf (c : EReal) 0 0 = 0 := by
  unfold mseOf
  rw [meanOf_none, sub_zero, mul_zero, ite_self]

theorem varOf_none (c : ℝ) : varOf (c : EReal) 0 0 = 0 := by
  unfold varOf
  rw [meanOf_none, mul_zero, mul_zero, sub_zero, add_zero]
  have e : Ideal.div 0 (max (c : EReal) 1) = 0 := meanOf_none c
  rw [e, ite_self]

theorem errOf_zero (c s q : EReal) : errOf c s q 0 = q := by
  unfold errOf
  rw [mul_zero, zero_mul, mul_zero, sub_zero, add_zero]

/-! ## The equations -/

theorem mse_zero : totalMse 0 (fun k => total k 0 fun p => (y p : EReal)) = msesR 0 fun p => (y p : EReal) := by
  unfold totalMse msesR
  obtain ⟨z, h⟩ := levels_zero y
  refine sum_congr rfl fun b _ => ?_
  obtain ⟨h1, h2, -⟩ := h b
  rw [h1, h2, cntR_real, sumR_real, level_zero]
  by_cases h0 : b = 0
  · rw [h0]; simp only [moved, add_zero]
  by_cases h3 : b = 3
  · rw [h3]; simp only [moved, add_zero]
  rw [(between_none y b h0 h3 _).2.1, EReal.coe_zero, mseOf_none, mseOf_none]

theorem var_zero : totalVar (fun k => total k 0 fun p => (y p : EReal)) = varsR 0 fun p => (y p : EReal) := by
  unfold totalVar varsR
  obtain ⟨z, h⟩ := levels_zero y
  refine sum_congr rfl fun b _ => ?_
  obtain ⟨h1, h2, h3'⟩ := h b
  rw [h1, h2, h3', ← varOf_real]
  by_cases h0 : b = 0
  · rw [h0]; simp only [moved, add_zero]
  by_cases h3 : b = 3
  · rw [h3]; simp only [moved, add_zero]
  rw [(between_none y b h0 h3 _).2.1, (between_none y b h0 h3 _).2.2, EReal.coe_zero, varOf_none, varOf_none]

/-- Every level is zero. -/
theorem nearest_zero (p : ℕ) : nearest 0 (y p : EReal) = 0 := mul_zero _

theorem far_zero (p : ℕ) : far 0 (y p : EReal) = dist 0 (y p : EReal) := by
  unfold far dist
  rw [nearest_zero, zero_mul]

theorem fars_zero : total 11 0 (fun p => (y p : EReal)) = farsR 0 fun p => (y p : EReal) :=
  sum_congr rfl fun p _ => (far_zero y p).symm

theorem nears_zero : total 12 0 (fun p => (y p : EReal)) = nearsR 0 fun p => (y p : EReal) := by
  refine sum_congr rfl fun p _ => ?_
  rw [far_zero y p, mul_comm (lit _)]
  rfl

theorem sq_zero : quantMse 0 (fun k => total k 0 fun p => (y p : EReal)) = Ideal.div (sqsR 0 fun p => (y p : EReal)) num := by
  unfold quantMse sqsR
  refine congrArg (fun z => Ideal.div z num) ?_
  obtain ⟨z, h⟩ := levels_zero y
  rw [sum_real _ _ (fun p => y p * y p) fun p => by rw [nearest_zero, sub_zero, EReal.coe_mul]]
  rw [sum_congr rfl fun b _ => show errOf _ _ _ _ = ((qR 0 y (range 51380224) (word b) : ℝ) : EReal) by rw [level_zero, errOf_zero, (h b).2.2]]
  have i1 := fun p => (zero_cases y p).1
  have i2 := fun p => (zero_cases y p).2.1
  have i0 := fun p => (zero_cases y p).2.2.1
  unfold qR
  generalize range 51380224 = s
  rw [Fin.sum_univ_four, ← EReal.coe_add, ← EReal.coe_add, ← EReal.coe_add, ← sum_add_distrib, ← sum_add_distrib, ← sum_add_distrib, EReal.coe_eq_coe_iff]
  refine sum_congr rfl fun p _ => ?_
  show ind 0 y 0#32 p * _ + ind 0 y 1#32 p * _ + ind 0 y 2#32 p * _ + ind 0 y 3#32 p * _ = _
  rw [i0, i1, i2]
  ring

end Cert.Proof.Quant
-- ==== Proof.Equal.lean ====
/-
  The kernel and the reference compute the same seven results.
-/
module

public import proofs.«01_k».proof.Defs
public import proofs.«01_k».proof.Proof.Zero
public import proofs.«01_k».proof.Proof.Args
public import Idealize.ShloMosaic.Lib.ReduceAll
public import Idealize.ShloMosaic.Lib.WordArith

@[expose] public section

noncomputable section

namespace Cert.Proof.Quant

open Idealize.ShloMosaic
open Idealize.ShloMosaic.TcCoe
open Idealize.ShloMosaic.Pointwise
open Idealize.SL.Sem

/-- The side conditions of the precondition's operations. -/
theorem preFacts : Cert.Pre_finite_nonnegative.Facts where
  bcast_S_S64x256x56x56 := by decide
  reducesTo_S64x256x56x56_S_d0_1_2_3 := by decide
  h_S_ := by decide

/-- A conjunction of two bits is one only when both are. -/
theorem both_one : ∀ a b : BitVec 1, IntOp.andi a b = 1#1 → a = 1#1 ∧ b = 1#1 := by decide

/-- There is one index into a scalar. -/
instance : Subsingleton Cert.Pre_finite_nonnegative.S_.Idx := ⟨fun a b => funext fun i => i.elim0⟩

/-- What the precondition says: every activation is a number, and the step is not negative. -/
theorem pre_says [Cert.Pre_finite_nonnegative.Facts] (x : Vec Ideal Cert.KernelIdeal.S64x256x56x56 .f32) (a : Vec Ideal Cert.KernelIdeal.S_ .f32)
    (h : Cert.Pre_finite_nonnegative.fn (F := Ideal) x a = fun _ => 1#1) : (∀ i, x i ≠ ⊤ ∧ x i ≠ ⊥) ∧ 0 ≤ a ix0 := by
  have h0 := congrFun h ix0
  dsimp only [Cert.Pre_finite_nonnegative.fn] at h0
  obtain ⟨hall, hpos⟩ := both_one _ _ h0
  constructor
  · intro i
    have hi := Host.reduce_andi_all _ _ _ _ _ hall i
    have hlt : max (x i) (-(x i)) < Ideal.ofBits .f32 0x7F800000#32 := of_decide_eq_true ((WordArith.ofBool_eq_one_iff _).1 hi)
    rw [show Ideal.ofBits .f32 0x7F800000#32 = ⊤ by simp [Ideal.ofBits, Ideal.ieee]] at hlt
    constructor <;> intro e <;> rw [e] at hlt <;> simp at hlt
  · have hlt : Ideal.ofBits .f32 0#32 ≤ a ix0 := of_decide_eq_true ((WordArith.ofBool_eq_one_iff _).1 hpos)
    rwa [show Ideal.ofBits .f32 0#32 = 0 by simp [Ideal.ofBits, Ideal.ieee]] at hlt

/-- The elements in order are real numbers. -/
theorem flat_real (x : Vec Ideal Cert.KernelIdeal.S64x256x56x56 .f32) (h : ∀ i, x i ≠ ⊤ ∧ x i ≠ ⊥) : ∃ y : ℕ → ℝ, flatAt x = fun p => (y p : EReal) :=
  ⟨fun p => (flatAt x p).toReal, funext fun p => (EReal.coe_toReal (h _).1 (h _).2).symm⟩

/-! ## The equations of the results, for every step that is not negative -/

section
variable (α : EReal) (y : ℕ → ℝ)

theorem mse_all (hα : 0 ≤ α) : totalMse α (fun k => total k α fun p => (y p : EReal)) = msesR α fun p => (y p : EReal) := by
  rcases hα.eq_or_lt with rfl | h
  · exact mse_zero y
  · exact mse_eq α y h

theorem var_all (hα : 0 ≤ α) : totalVar (fun k => total k α fun p => (y p : EReal)) = varsR α fun p => (y p : EReal) := by
  rcases hα.eq_or_lt with rfl | h
  · exact var_zero y
  · exact var_eq α y h

theorem sq_all (hα : 0 ≤ α) : quantMse α (fun k => total k α fun p => (y p : EReal)) = Ideal.div (sqsR α fun p => (y p : EReal)) num := by
  rcases hα.eq_or_lt with rfl | h
  · exact sq_zero y
  · exact sq_eq α y h

theorem fars_all (hα : 0 ≤ α) : total 11 α (fun p => (y p : EReal)) = farsR α fun p => (y p : EReal) := by
  rcases hα.eq_or_lt with rfl | h
  · exact fars_zero y
  · exact fars_eq α y h

theorem nears_all (hα : 0 ≤ α) : total 12 α (fun p => (y p : EReal)) = nearsR α fun p => (y p : EReal) := by
  rcases hα.eq_or_lt with rfl | h
  · exact nears_zero y
  · exact nears_eq α y h

end

/-- From arguments that agree, finite activations and a step that is not negative, both programs end with the same seven results. -/
theorem algebraic [hPre_finite_nonnegative : Cert.Pre_finite_nonnegative.Facts] : Cert.algebraic_KernelIdeal_ReferenceIdeal_pre_finite_nonnegative
    (hKernelIdeal := Cert.KernelIdeal.Gen.facts) (hReferenceIdeal := Cert.ReferenceIdeal.Gen.facts) := by
  intro m g m' g' hpre hm
  have hr := ref_run m' g'
  have key : ∀ c : Dev Cert.KernelIdeal.nD, ∃ y : ℕ → ℝ, flatAt (acts m c) = (fun p => (y p : EReal)) ∧ 0 ≤ step m c
      ∧ stepAt m' c = step m c ∧ elemsAt m' c = flatAt (acts m c) := fun c => by
    obtain ⟨hx, ha⟩ := pre_says _ _ (hpre c)
    obtain ⟨y, hy⟩ := flat_real _ hx
    refine ⟨y, hy, ha, ?_, ?_⟩
    · exact congrFun (hm c).2 ix0
    · exact congrArg flatAt (hm c).1
  choose y hy hα hs he using key
  refine ⟨fun c => vec0 (msesR (step m c) (flatAt (acts m c)) + varsR (step m c) (flatAt (acts m c))),
    fun c => vec0 (msesR (step m c) (flatAt (acts m c))), fun c => vec0 (varsR (step m c) (flatAt (acts m c))),
    fun c => vec0 (Ideal.div (sqsR (step m c) (flatAt (acts m c))) num), fun c => vec0 (Ideal.div (farsR (step m c) (flatAt (acts m c))) num),
    fun c => vec0 (effOf (step m c) (Ideal.div (farsR (step m c) (flatAt (acts m c))) num)),
    fun c => vec0 (Ideal.div (nearsR (step m c) (flatAt (acts m c))) num * hundred), ?_, ?_⟩
  · refine (θ_run Cert.KernelIdeal.defs _ _).mono ?_ (run_at (F := Ideal) m g)
    intro r h c
    obtain ⟨h84, h71, h83, h93, h94, h100, h102⟩ := val5_results m c _ fun k _ => rfl
    dsimp only
    rw [hy c] at h84 h71 h83 h93 h94 h100 h102 ⊢
    rw [mse_all _ _ (hα c), var_all _ _ (hα c)] at h84
    rw [mse_all _ _ (hα c)] at h71
    rw [var_all _ _ (hα c)] at h83
    rw [sq_all _ _ (hα c)] at h93
    rw [fars_all _ _ (hα c)] at h94 h100
    rw [nears_all _ _ (hα c)] at h102
    exact ⟨(h.1 c Cert.KernelIdeal.main_v84 rfl).trans h84, (h.1 c Cert.KernelIdeal.main_v71 rfl).trans h71, (h.1 c Cert.KernelIdeal.main_v83 rfl).trans h83,
      (h.1 c Cert.KernelIdeal.main_v93 rfl).trans h93, (h.1 c Cert.KernelIdeal.main_v94 rfl).trans h94, (h.1 c Cert.KernelIdeal.main_v100 rfl).trans h100,
      (h.1 c Cert.KernelIdeal.main_v102 rfl).trans h102, (h.1 c Cert.KernelIdeal.main_arg0 rfl).trans (val5_arg0 m c),
      (h.1 c Cert.KernelIdeal.main_arg1 rfl).trans (val5_arg1 m c)⟩
  · refine (θ_run Cert.ReferenceIdeal.defs _ _).mono ?_ hr
    intro r h c
    have q := h c
    rw [hs c, he c] at q
    exact q

end Cert.Proof.Quant
-- ==== Proof.lean ====
/-
  The certificate: the frames of the kernel, of its ideal program and of the ideal reference; that the ideal program is the
  kernel's; and that it computes what the reference computes.
-/
module

public import proofs.«01_k».proof.Defs
public import proofs.«01_k».proof.Proof.Text
public import proofs.«01_k».proof.Proof.RefFrame
public import proofs.«01_k».proof.Proof.Equal

@[expose] public section

noncomputable section

namespace Cert.Proof

open Cert.Proof.Quant

theorem claim : Cert.Claim := ⟨Cert.Kernel.Gen.facts, Cert.KernelIdeal.Gen.facts, Cert.ReferenceIdeal.Gen.facts, preFacts,
  frame_kernel, frame_kernelIdeal, fun m ρ _ => run_args m ρ, frame_referenceIdeal, fun m ρ _ => frame_referenceIdeal m ρ True.intro,
  True.intro, @algebraic preFacts⟩

end Cert.Proof

end
